-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_order [hPre_in_order : Cert.Pre_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_order [hPre_in_order : Cert.Pre_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_order [hKernelIdeal : Cert.KernelIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_order m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_order [hReferenceIdeal : Cert.ReferenceIdeal.Facts] [hPre_in_order : Cert.Pre_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_order [hKernelIdeal : Cert.KernelIdeal.Facts] [hReferenceIdeal : Cert.ReferenceIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_order : Cert.Pre_in_order.Facts),
    quiescent_Kernel (hKernel := hKernel)
    ∧ quiescent_KernelIdeal (hKernelIdeal := hKernelIdeal)
    ∧ quiescent_KernelIdeal_pre_in_order (hKernelIdeal := hKernelIdeal) (hPre_in_order := hPre_in_order)
    ∧ quiescent_ReferenceIdeal (hReferenceIdeal := hReferenceIdeal)
    ∧ quiescent_ReferenceIdeal_pre_in_order (hReferenceIdeal := hReferenceIdeal) (hPre_in_order := hPre_in_order)
    ∧ preserves_Kernel_KernelIdeal
    ∧ algebraic_KernelIdeal_ReferenceIdeal_pre_in_order (hKernelIdeal := hKernelIdeal) (hReferenceIdeal := hReferenceIdeal) (hPre_in_order := hPre_in_order)
-- ==== Pre_in_order.lean ====
abbrev S100000x256 : Shape := ⟨2, ![100000, 256]⟩
abbrev S100000 : Shape := ⟨1, ![100000]⟩
abbrev S99999 : Shape := ⟨1, ![99999]⟩
abbrev S_ : Shape := ⟨0, ![]⟩

class Facts : Prop where
  slices_S100000_S99999_0 : S100000.Slices ![0] S99999
  slices_S100000_S99999_1 : S100000.Slices ![1] S99999
  reducesTo_S99999_S_d0 : S99999.ReducesTo [0] S_
  h_S_ : 0 < S_.numel

variable [Facts]

def fn {F : FTy → Type} [FloatOps F] (main_arg0 : FVec F S100000x256 .f32) (main_arg1 : IVec S100000 32) : IVec S_ 1 :=
  let main_v0 : IVec S99999 32 := (extractStridedSlice S99999 ![0] · slices_S100000_S99999_0) main_arg1
  let main_v1 : IVec S99999 32 := (extractStridedSlice S99999 ![1] · slices_S100000_S99999_1) main_arg1
  let main_v2 : IVec S99999 1 := cmpi .sle main_v0 main_v1
  let main_c : IVec S_ 1 := constantI S_ 1 1#1
  let main_v3 : IVec S_ 1 := (fun x v => Host.reduce IntOp.andi x v reducesTo_S99999_S_d0 h_S_) main_v2 main_c
  main_v3
-- ==== Kernel.lean ====
abbrev S100000x256 : Shape := ⟨2, ![100000, 256]⟩
abbrev S100000 : Shape := ⟨1, ![100000]⟩
abbrev S_ : Shape := ⟨0, ![]⟩
abbrev S32x256 : Shape := ⟨2, ![32, 256]⟩
abbrev S100032x256 : Shape := ⟨2, ![100032, 256]⟩
abbrev S32 : Shape := ⟨1, ![32]⟩
abbrev S100032 : Shape := ⟨1, ![100032]⟩
abbrev S512x256 : Shape := ⟨2, ![512, 256]⟩
abbrev S16x256 : Shape := ⟨2, ![16, 256]⟩
abbrev S17 : Shape := ⟨1, ![17]⟩
abbrev S16 : Shape := ⟨1, ![16]⟩
abbrev S1 : Shape := ⟨1, ![1]⟩
abbrev S1x16 : Shape := ⟨2, ![1, 16]⟩

abbrev nBuf : Table → Nat
  | .hbm => 9
  | .local .scVector .smem => 1
  | .local .scVector .vmem => 3
  | _ => 0

abbrev bufTy : (tb : Table) → Fin (nBuf tb) → BufTy
  | .hbm, ⟨0, _⟩ => ⟨S100000x256, .f32⟩
  | .hbm, ⟨1, _⟩ => ⟨S100000, .i32⟩
  | .hbm, ⟨2, _⟩ => ⟨S_, .f32⟩
  | .hbm, ⟨3, _⟩ => ⟨S32x256, .f32⟩
  | .hbm, ⟨4, _⟩ => ⟨S100032x256, .f32⟩
  | .hbm, ⟨5, _⟩ => ⟨S_, .i32⟩
  | .hbm, ⟨6, _⟩ => ⟨S32, .i32⟩
  | .hbm, ⟨7, _⟩ => ⟨S100032, .i32⟩
  | .hbm, ⟨8, _⟩ => ⟨S512x256, .f32⟩
  | .local .scVector .smem, ⟨0, _⟩ => ⟨S17, .i32⟩
  | .local .scVector .vmem, ⟨0, _⟩ => ⟨S100032, .i32⟩
  | .local .scVector .vmem, ⟨1, _⟩ => ⟨S32x256, .f32⟩
  | .local .scVector .vmem, ⟨2, _⟩ => ⟨S16x256, .f32⟩
  | _, _ => ⟨S100000x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 4, rfl⟩
abbrev main_v3_scv : Ref sig .scVector := ⟨.hbm, 7, rfl⟩
abbrev main_v4_scv : Ref sig .scVector := ⟨.hbm, 8, rfl⟩
abbrev cc0_scratch3 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c17_i32 : BitVec 32 := 17#32
  let v2 : BitVec 32 := Scalar.addi c0_i32 c17_i32
  let c1_i32 : BitVec 32 := 1#32
  ⟨c0_i32, v2, c1_i32⟩
@[reducible] def k0_t2_loop : Scf.Loop 32 :=
  let c0_i32_10 : BitVec 32 := 0#32
  let c17_i32_11 : BitVec 32 := 17#32
  let v10 : BitVec 32 := Scalar.addi c0_i32_10 c17_i32_11
  let c1_i32_12 : BitVec 32 := 1#32
  ⟨c0_i32_10, v10, c1_i32_12⟩
def k0_off1 (arg11 : BitVec 32) (arg12 : BitVec 32) : Fin 1 → Nat :=
  let v14 : BitVec 32 := Scalar.addi arg11 arg12
  let c2_i32 : BitVec 32 := 2#32
  let v15 : BitVec 32 := Scalar.divsi v14 c2_i32
  let v16 : Index := Scalar.indexCast v15
  ![v16.toNat]

def k0_chk1 (arg11 : BitVec 32) (arg12 : BitVec 32) : Prop :=
  (∀ a, (k0_off1 arg11 arg12) a + S16.size a ≤ S100032.size a)
theorem k0_off1_inb : ∀ (arg11 : BitVec 32) (arg12 : BitVec 32) (k0_hw1 : k0_chk1 arg11 arg12), ∀ a, (k0_off1 arg11 arg12) a + S16.size a ≤ S100032.size a := fun arg11 arg12 k0_hw1 => k0_hw1

def k0_off2 (k0_t1 : Fin k0_t1_loop.trips) : Fin 1 → Nat :=
  let c0_i32_7 : BitVec 32 := 0#32
  let c0_i32 : BitVec 32 := 0#32
  let c1_i32 : BitVec 32 := 1#32
  let arg9 : BitVec 32 := Scf.iv c0_i32 c1_i32 k0_t1
  let c1_i32_6 : BitVec 32 := 1#32
  let v6 : BitVec 32 := Scalar.muli arg9 c1_i32_6
  let v7 : BitVec 32 := Scalar.addi c0_i32_7 v6
  let v12 : Index := Scalar.indexCast v7
  ![v12.toNat]
@[reducible] def k0_t3_loop : Scf.Loop 32 :=
  let c0_i32_1 : BitVec 32 := 0#32
  let c16_i32_2 : BitVec 32 := 16#32
  let v4 : BitVec 32 := Scalar.addi c0_i32_1 c16_i32_2
  let c1_i32_3 : BitVec 32 := 1#32
  ⟨c0_i32_1, v4, c1_i32_3⟩
def k0_off3 (k0_t3 : Fin k0_t3_loop.trips) : Fin 1 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v8 : Index := Scalar.indexCast v7
  ![v8.toNat]
def k0_off4 (k0_t3 : Fin k0_t3_loop.trips) : Fin 1 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let c1_i32_8 : BitVec 32 := 1#32
  let v10 : BitVec 32 := Scalar.addi v7 c1_i32_8
  let v11 : Index := Scalar.indexCast v10
  ![v11.toNat]
@[reducible] def k0_t4_loop (v9 : BitVec 32) (v12 : BitVec 32) : Scf.Loop 32 :=
  let c0_i32_10 : BitVec 32 := 0#32
  let c8_i32 : BitVec 32 := 8#32
  let v14 : BitVec 32 := Scalar.divsi v9 c8_i32
  let c8_i32_9 : BitVec 32 := 8#32
  let v15 : BitVec 32 := Scalar.muli v14 c8_i32_9
  let v17 : BitVec 32 := Scalar.subi v12 v15
  let c31_i32 : BitVec 32 := 31#32
  let v18 : BitVec 32 := Scalar.addi v17 c31_i32
  let c32_i32 : BitVec 32 := 32#32
  let v19 : BitVec 32 := Scalar.divsi v18 c32_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_12 : BitVec 32 := 1#32
  ⟨c0_i32_10, v24, c1_i32_12⟩

def k0_off5 (v9 : BitVec 32) (v12 : BitVec 32) (k0_t4 : Fin (k0_t4_loop v9 v12).trips) : Fin 2 → Nat :=
  let c8_i32 : BitVec 32 := 8#32
  let v14 : BitVec 32 := Scalar.divsi v9 c8_i32
  let c8_i32_9 : BitVec 32 := 8#32
  let v15 : BitVec 32 := Scalar.muli v14 c8_i32_9
  let c0_i32_10 : BitVec 32 := 0#32
  let c1_i32_12 : BitVec 32 := 1#32
  let arg10 : BitVec 32 := Scf.iv c0_i32_10 c1_i32_12 k0_t4
  let c32_i32_15 : BitVec 32 := 32#32
  let v110 : BitVec 32 := Scalar.muli arg10 c32_i32_15
  let v111 : BitVec 32 := Scalar.addi v15 v110
  let c0_i32_1594_r1 : BitVec 32 := 0#32
  ![v111.toNat, 0]
@[reducible] def k0_t5_loop (v9 : BitVec 32) (v12 : BitVec 32) : Scf.Loop 32 :=
  let c0_i32_10 : BitVec 32 := 0#32
  let c8_i32 : BitVec 32 := 8#32
  let v14 : BitVec 32 := Scalar.divsi v9 c8_i32
  let c8_i32_9 : BitVec 32 := 8#32
  let v15 : BitVec 32 := Scalar.muli v14 c8_i32_9
  let v17 : BitVec 32 := Scalar.subi v12 v15
  let c31_i32 : BitVec 32 := 31#32
  let v18 : BitVec 32 := Scalar.addi v17 c31_i32
  let c32_i32 : BitVec 32 := 32#32
  let v19 : BitVec 32 := Scalar.divsi v18 c32_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let v21 : BitVec 32 := Scalar.addi c0_i32_10 v20
  let c1_i32_13 : BitVec 32 := 1#32
  ⟨v24, v21, c1_i32_13⟩
def k0_off6 (v9 : BitVec 32) (v12 : BitVec 32) (k0_t5 : Fin (k0_t5_loop v9 v12).trips) : Fin 2 → Nat :=
  let c8_i32 : BitVec 32 := 8#32
  let v14 : BitVec 32 := Scalar.divsi v9 c8_i32
  let c8_i32_9 : BitVec 32 := 8#32
  let v15 : BitVec 32 := Scalar.muli v14 c8_i32_9
  let c0_i32_10 : BitVec 32 := 0#32
  let v17 : BitVec 32 := Scalar.subi v12 v15
  let c31_i32 : BitVec 32 := 31#32
  let v18 : BitVec 32 := Scalar.addi v17 c31_i32
  let c32_i32 : BitVec 32 := 32#32
  let v19 : BitVec 32 := Scalar.divsi v18 c32_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg10 : BitVec 32 := Scf.iv v24 c1_i32_13 k0_t5
  let c32_i32_15 : BitVec 32 := 32#32
  let v110 : BitVec 32 := Scalar.muli arg10 c32_i32_15
  let v111 : BitVec 32 := Scalar.addi v15 v110
  let c0_i32_1594_r2 : BitVec 32 := 0#32
  ![v111.toNat, 0]

def k0_chk2 (v9 : BitVec 32) (v12 : BitVec 32) : Prop :=
  ((k0_t4_loop v9 v12).OK) ∧
  (∀ k0_t4 : Fin (k0_t4_loop v9 v12).trips, ∀ a, (k0_off5 v9 v12 k0_t4) a + S32x256.size a ≤ S100032x256.size a) ∧
  ((k0_t5_loop v9 v12).OK) ∧
  (∀ k0_t5 : Fin (k0_t5_loop v9 v12).trips, ∀ a, (k0_off6 v9 v12 k0_t5) a + S32x256.size a ≤ S100032x256.size a)
theorem k0_t4_ok : ∀ (v9 : BitVec 32) (v12 : BitVec 32) (k0_hw2 : k0_chk2 v9 v12), (k0_t4_loop v9 v12).OK := fun v9 v12 k0_hw2 => k0_hw2.1
theorem k0_off5_inb : ∀ (v9 : BitVec 32) (v12 : BitVec 32) (k0_hw2 : k0_chk2 v9 v12) (k0_t4 : Fin (k0_t4_loop v9 v12).trips), ∀ a, (k0_off5 v9 v12 k0_t4) a + S32x256.size a ≤ S100032x256.size a := fun v9 v12 k0_hw2 k0_t4 => k0_hw2.2.1 k0_t4
theorem k0_t5_ok : ∀ (v9 : BitVec 32) (v12 : BitVec 32) (k0_hw2 : k0_chk2 v9 v12), (k0_t5_loop v9 v12).OK := fun v9 v12 k0_hw2 => k0_hw2.2.2.1
theorem k0_off6_inb : ∀ (v9 : BitVec 32) (v12 : BitVec 32) (k0_hw2 : k0_chk2 v9 v12) (k0_t5 : Fin (k0_t5_loop v9 v12).trips), ∀ a, (k0_off6 v9 v12 k0_t5) a + S32x256.size a ≤ S100032x256.size a := fun v9 v12 k0_hw2 k0_t5 => k0_hw2.2.2.2 k0_t5

def k0_off7 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v31 : Index := Scalar.indexCast v7
  let c0 : Index := 0#32
  ![v31.toNat, 0]
def k0_off8 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v36 : Index := Scalar.indexCast v7
  let c16 : Index := 16#32
  ![v36.toNat, 16]
def k0_off9 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v41 : Index := Scalar.indexCast v7
  let c32 : Index := 32#32
  ![v41.toNat, 32]
def k0_off10 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v46 : Index := Scalar.indexCast v7
  let c48 : Index := 48#32
  ![v46.toNat, 48]
def k0_off11 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v51 : Index := Scalar.indexCast v7
  let c64 : Index := 64#32
  ![v51.toNat, 64]
def k0_off12 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v56 : Index := Scalar.indexCast v7
  let c80 : Index := 80#32
  ![v56.toNat, 80]
def k0_off13 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v61 : Index := Scalar.indexCast v7
  let c96 : Index := 96#32
  ![v61.toNat, 96]
def k0_off14 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v66 : Index := Scalar.indexCast v7
  let c112 : Index := 112#32
  ![v66.toNat, 112]
def k0_off15 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v71 : Index := Scalar.indexCast v7
  let c128 : Index := 128#32
  ![v71.toNat, 128]
def k0_off16 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v76 : Index := Scalar.indexCast v7
  let c144 : Index := 144#32
  ![v76.toNat, 144]
def k0_off17 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v81 : Index := Scalar.indexCast v7
  let c160 : Index := 160#32
  ![v81.toNat, 160]
def k0_off18 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v86 : Index := Scalar.indexCast v7
  let c176 : Index := 176#32
  ![v86.toNat, 176]
def k0_off19 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v91 : Index := Scalar.indexCast v7
  let c192 : Index := 192#32
  ![v91.toNat, 192]
def k0_off20 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v96 : Index := Scalar.indexCast v7
  let c208 : Index := 208#32
  ![v96.toNat, 208]
def k0_off21 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v101 : Index := Scalar.indexCast v7
  let c224 : Index := 224#32
  ![v101.toNat, 224]
def k0_off22 (k0_t3 : Fin k0_t3_loop.trips) : Fin 2 → Nat :=
  let c0_i32_7 : BitVec 32 := 0#32
  let c0_i32_1 : BitVec 32 := 0#32
  let c1_i32_3 : BitVec 32 := 1#32
  let arg9 : BitVec 32 := Scf.iv c0_i32_1 c1_i32_3 k0_t3
  let c1_i32_6 : BitVec 32 := 1#32
  let v6 : BitVec 32 := Scalar.muli arg9 c1_i32_6
  let v7 : BitVec 32 := Scalar.addi c0_i32_7 v6
  let v106 : Index := Scalar.indexCast v7
  let c240 : Index := 240#32
  ![v106.toNat, 240]
def k0_off23 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_5 : BitVec 32 := 16#32
  let v5 : BitVec 32 := Scalar.muli v1 c16_i32_5
  let c0_i32_6_r3 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x256 : Shape := ⟨2, ![100000, 256]⟩
abbrev S100000 : Shape := ⟨1, ![100000]⟩
abbrev S_ : Shape := ⟨0, ![]⟩
abbrev S512x256 : Shape := ⟨2, ![512, 256]⟩
abbrev S100000x1 : Shape := ⟨2, ![100000, 1]⟩
abbrev S512 : Shape := ⟨1, ![512]⟩
abbrev S512x1 : Shape := ⟨2, ![512, 1]⟩

abbrev nBuf : Space → Nat
  | .hbm => 19
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S_, .f32⟩
  | .hbm, ⟨3, _⟩ => ⟨S512x256, .f32⟩
  | .hbm, ⟨4, _⟩ => ⟨S100000x1, .i32⟩
  | .hbm, ⟨5, _⟩ => ⟨S512x256, .f32⟩
  | .hbm, ⟨6, _⟩ => ⟨S_, .f32⟩
  | .hbm, ⟨7, _⟩ => ⟨S100000, .f32⟩
  | .hbm, ⟨8, _⟩ => ⟨S_, .f32⟩
  | .hbm, ⟨9, _⟩ => ⟨S512, .f32⟩
  | .hbm, ⟨10, _⟩ => ⟨S100000x1, .i32⟩
  | .hbm, ⟨11, _⟩ => ⟨S512, .f32⟩
  | .hbm, ⟨12, _⟩ => ⟨S_, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S512x1, .f32⟩
  | .hbm, ⟨17, _⟩ => ⟨S512x256, .f32⟩
  | .hbm, ⟨18, _⟩ => ⟨S512x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.KernelIdealProg.lean ====
/-
  The segment-mean kernel written as a short program: the copy of the sorted segment numbers, the seventeen binary
  searches, the sixteen segments of a task (each the running sums over chunks of 32 rows, then the division and the
  sixteen stores of its row), and the copy of the task's rows to the result. `kern_eq` says that the printed kernel, with
  its 512 loads per chunk written out, is this program.
-/
module

public import proofs.«01_k».proof.Proof.Gen.KernelIdeal
public import Idealize.ShloMosaic.Lib.Tactic

@[expose] public section

noncomputable section

namespace Cert.KernelIdeal.Seg

open Idealize.ShloMosaic Idealize.SL.Sem
open Cert.KernelIdeal Cert.KernelIdeal.Gen

variable {F : FTy → Type} [FloatOps F]

/-- Sixteen lanes of one row. -/
abbrev V (F : FTy → Type) : Type := FVec F S16 .f32

/-- A program of the task at grid point `i`. -/
abbrev PR (F : FTy → Type) (i : grid0.Coords) (α : Type) :=
  Prog (TpuEff nD τ sig (Elt F) Λ₀ (.scVector ((i 0).castLE hcore0) ((i 1).castLE hsub0))) α

/-- Sixteen values as the loop carries them. -/
abbrev Tup (α : Type) : Type := α × α × α × α × α × α × α × α × α × α × α × α × α × α × α × α

/-- A family of sixteen values as the loop carries them, -/
def tup {α : Type} (a : Fin 16 → α) : Tup α :=
  (a 0, a 1, a 2, a 3, a 4, a 5, a 6, a 7, a 8, a 9, a 10, a 11, a 12, a 13, a 14, a 15)

/-- and back. -/
def untup {α : Type} : Tup α → Fin 16 → α
  | (a0, a1, a2, a3, a4, a5, a6, a7, a8, a9, a10, a11, a12, a13, a14, a15) =>
    ![a0, a1, a2, a3, a4, a5, a6, a7, a8, a9, a10, a11, a12, a13, a14, a15]

theorem untup_tup {α : Type} (a : Fin 16 → α) : untup (tup a) = a := by
  funext j; fin_cases j <;> rfl

/-- A list of steps, one after the other, each from what the one before left. -/
def steps {E : Type → Type} {α σ : Type} (f : α → σ → Prog E σ) : List α → σ → Prog E σ
  | [], s => .ret s
  | x :: xs, s => f x s >>= steps f xs

theorem chunk_inb (r : Fin 32) (j : Fin 16) :
    ∀ a, (![r.val, 16 * j.val] : Fin 2 → Nat) a + S1x16.size a ≤ S32x256.size a := by
  intro a
  have := r.isLt
  have := j.isLt
  fin_cases a <;> simp <;> omega

theorem res_inb (g : Fin k0_t3_loop.trips) (j : Fin 16) :
    ∀ a, (![(Scalar.indexCast (Scalar.addi 0#32 (Scalar.muli (Scf.iv 0#32 1#32 g) 1#32))).toNat, 16 * j.val] : Fin 2 → Nat) a + S1x16.size a ≤ S16x256.size a := by
  have h := k0_off7_inb g 0
  intro a
  have := j.isLt
  fin_cases a
  · exact h
  · simp; omega

/-- The zero vector. -/
def zeroV : V F := broadcast S16 (Scalar.ofBits .f32 0x00000000#32 : F .f32)

/-- Whether row `r` of a chunk counts: it is not before the segment's first and before the row `m`. -/
def counts (r0 m : BitVec 32) (r : Fin 32) : BitVec 1 :=
  Scalar.andi (Scalar.cmpi .sle r0 (BitVec.ofNat 32 r.val)) (Scalar.cmpi .sgt m (BitVec.ofNat 32 r.val))

/-- A running sum with one row's sixteen lanes added where the row counts. -/
def addLanes (p : BitVec 1) (acc : V F) (w : Vec F S1x16 .f32) : V F :=
  addf acc (Scalar.select p (shapeCast S16 w shapeCasts_S1x16_S16 : V F) zeroV)

variable (i : grid0.Coords)

/-- The load of lanes `16 j` to `16 j + 15` of row `r` of the chunk, added to the `j`-th running sum. -/
def laneProg (arg6 : Memref sig .scVector .vmem S32x256 .f32) (p : BitVec 1) (r : Fin 32) (j : Fin 16)
    (a : Fin 16 → V F) : PR F i (Fin 16 → V F) :=
  .op (.load arg6 (Rect.unit (s := S32x256) ![r.val, 16 * j.val] S1x16.size (chunk_inb r j)).toLoadRect (View.loadsAt_vmem h_S1x16))
    fun (w : Vec F S1x16 .f32) => .ret (Function.update a j (addLanes p (a j) w))

/-- One row of a chunk. -/
def rowProg (arg6 : Memref sig .scVector .vmem S32x256 .f32) (r0 m : BitVec 32) (r : Fin 32)
    (a : Fin 16 → V F) : PR F i (Fin 16 → V F) :=
  steps (laneProg i arg6 (counts r0 m r) r) (List.finRange 16) a

/-- One chunk: the copy of its 32 rows, the wait, the rows. -/
def chunkProg (arg2 : Memref sig .scVector .hbm S100032x256 .f32) (arg6 : Memref sig .scVector .vmem S32x256 .f32) (harg6 : arg6.IsWhole)
    (sem : DmaSems sig S_) (off : Fin 2 → Nat) (hoff : ∀ a, off a + S32x256.size a ≤ S100032x256.size a)
    (r0 m : BitVec 32) (a : Fin 16 → V F) : PR F i (Fin 16 → V F) :=
  .op (.enqueueDma (arg2.slice (Rect.unit (s := S100032x256) off S32x256.size hoff) (fun _ => rfl)) (.here arg6) (.dma sem.sem) (View.wordExact_bits rfl) harg6.wordExact ⟨Or.inl rfl, trivial⟩) fun _ =>
  .op (.waitDma2 sem.sem (arg2.slice (Rect.unit (s := S100032x256) off S32x256.size hoff) (fun _ => rfl)) arg6 (View.wordExact_bits rfl) harg6.wordExact) fun _ =>
  steps (rowProg i arg6 r0 m) (List.finRange 32) a

/-- The first row fetched for a segment that starts at `s`: `s` rounded towards zero to a multiple of 8. -/
def baseW (s : BitVec 32) : BitVec 32 := Scalar.muli (Scalar.divsi s 8#32) 8#32
/-- The first row that counts of the chunk at induction variable `c`, -/
def firstW (s c : BitVec 32) : BitVec 32 := Scalar.select (Scalar.cmpi .eq c 0#32) (Scalar.subi s (baseW s)) 0#32
/-- and the row before which they count. -/
def lastW (s e c : BitVec 32) : BitVec 32 := Scalar.minsi 32#32 (Scalar.subi (Scalar.subi e (baseW s)) (Scalar.muli c 32#32))

/-- The lower bound of the remainder loop's induction variable. -/
def remW (s e : BitVec 32) : BitVec 32 := (k0_t5_loop s e).lb

/-- The load and the store of lanes `16 j` to `16 j + 15` of row `g` of the task's result rows. -/
def storeProg (arg7 : Memref sig .scVector .vmem S16x256 .f32) (g : Fin k0_t3_loop.trips) (v : Fin 16 → V F) (j : Fin 16) (_ : PUnit) :
    PR F i PUnit :=
  .op (.load arg7 (Rect.unit (s := S16x256) ![(Scalar.indexCast (Scalar.addi 0#32 (Scalar.muli (Scf.iv 0#32 1#32 g) 1#32))).toNat, 16 * j.val] S1x16.size (res_inb g j)).toLoadRect (View.loadsAt_vmem h_S1x16)) fun _ =>
  .op (.store arg7 (Rect.unit (s := S16x256) ![(Scalar.indexCast (Scalar.addi 0#32 (Scalar.muli (Scf.iv 0#32 1#32 g) 1#32))).toNat, 16 * j.val] S1x16.size (res_inb g j))
    (shapeCast S1x16 (v j) shapeCasts_S16_S1x16) Finset.univ (View.stores_vmem_bits_univ h_S1x16 rfl) (.inl rfl)) fun _ => .ret ⟨⟩

/-- The number of rows of a segment, at least one, in every lane. -/
def denom (s e : BitVec 32) : V F := broadcast S16 (Scalar.sitofp .f32 (Scalar.maxsi (Scalar.subi e s) 1#32) : F .f32)

/-- One segment. -/
def groupProg (arg2 : Memref sig .scVector .hbm S100032x256 .f32) (arg6 : Memref sig .scVector .vmem S32x256 .f32) (harg6 : arg6.IsWhole)
    (arg7 : Memref sig .scVector .vmem S16x256 .f32) (arg8 : Memref sig .scVector .smem S17 .i32) (sem1 sem2 : DmaSems sig S_)
    (g : Fin k0_t3_loop.trips) (_ : PUnit) : PR F i PUnit :=
  smemLoad arg8 (Rect.unit (s := S17) (k0_off3 g) S1.size (k0_off3_inb g)) numel1_S1 rfl >>= fun (s : BitVec 32) =>
  smemLoad arg8 (Rect.unit (s := S17) (k0_off4 g) S1.size (k0_off4_inb g)) numel1_S1 rfl >>= fun (e : BitVec 32) =>
  .op (.assume (k0_chk2 s e) (k0_chk2.dec s e)) fun hw =>
  Scf.Loop.for (k0_t4_loop s e) (k0_t4_ok s e hw.down) (tup fun _ => (zeroV : V F)) (fun t acc =>
    chunkProg i arg2 arg6 harg6 sem1 (k0_off5 s e t) (k0_off5_inb s e hw.down t) (firstW s (Scf.iv 0#32 1#32 t)) (lastW s e (Scf.iv 0#32 1#32 t)) (untup acc) >>= fun a => .ret (tup a)) >>= fun acc =>
  Scf.Loop.for (k0_t5_loop s e) (k0_t5_ok s e hw.down) acc (fun t acc =>
    chunkProg i arg2 arg6 harg6 sem2 (k0_off6 s e t) (k0_off6_inb s e hw.down t) (firstW s (Scf.iv (remW s e) 1#32 t)) (lastW s e (Scf.iv (remW s e) 1#32 t)) (untup acc) >>= fun a => .ret (tup a)) >>= fun acc =>
  steps (storeProg i arg7 g fun j => divf (untup acc j) (denom s e)) (List.finRange 16) ⟨⟩

/-- What the first printed part of a segment hands to the rest: the row, the running sums 4 to 15, the denominator, and
    the fourth mean. -/
abbrev Cut (F : FTy → Type) [FloatOps F] : Type :=
  Σ' (_ : BitVec 32) (_ : V F) (_ : V F) (_ : V F) (_ : V F) (_ : V F) (_ : V F) (_ : V F) (_ : V F) (_ : V F) (_ : V F) (_ : V F) (_ : V F) (_ : V F), V F

/-- The hand-over from the running sums, -/
def pack (g : Fin k0_t3_loop.trips) (s e : BitVec 32) (a : Fin 16 → V F) : Cut F :=
  ⟨Scalar.addi 0#32 (Scalar.muli (Scf.iv 0#32 1#32 g) 1#32), a 4, a 5, a 6, a 7, a 8, a 9, a 10, a 11, a 12, a 13, a 14, a 15, denom s e, divf (a 3) (denom s e)⟩

/-- and the means the rest computes from it (it stores lanes from the fourth on). -/
def unpack : Cut F → Fin 16 → V F
  | ⟨_, a4, a5, a6, a7, a8, a9, a10, a11, a12, a13, a14, a15, n, q3⟩ =>
    ![q3, q3, q3, q3, divf a4 n, divf a5 n, divf a6 n, divf a7 n, divf a8 n, divf a9 n, divf a10 n, divf a11 n, divf a12 n, divf a13 n, divf a14 n, divf a15 n]

/-- One segment, cut where the printed text is cut. -/
def groupCut (arg2 : Memref sig .scVector .hbm S100032x256 .f32) (arg6 : Memref sig .scVector .vmem S32x256 .f32) (harg6 : arg6.IsWhole)
    (arg7 : Memref sig .scVector .vmem S16x256 .f32) (arg8 : Memref sig .scVector .smem S17 .i32) (sem1 sem2 : DmaSems sig S_)
    (g : Fin k0_t3_loop.trips) (_ : PUnit) : PR F i PUnit :=
 (  smemLoad arg8 (Rect.unit (s := S17) (k0_off3 g) S1.size (k0_off3_inb g)) numel1_S1 rfl >>= fun (s : BitVec 32) =>
  smemLoad arg8 (Rect.unit (s := S17) (k0_off4 g) S1.size (k0_off4_inb g)) numel1_S1 rfl >>= fun (e : BitVec 32) =>
  .op (.assume (k0_chk2 s e) (k0_chk2.dec s e)) fun hw =>
  Scf.Loop.for (k0_t4_loop s e) (k0_t4_ok s e hw.down) (tup fun _ => (zeroV : V F)) (fun t acc =>
    chunkProg i arg2 arg6 harg6 sem1 (k0_off5 s e t) (k0_off5_inb s e hw.down t) (firstW s (Scf.iv 0#32 1#32 t)) (lastW s e (Scf.iv 0#32 1#32 t)) (untup acc) >>= fun a => .ret (tup a)) >>= fun acc =>
  Scf.Loop.for (k0_t5_loop s e) (k0_t5_ok s e hw.down) acc (fun t acc =>
    chunkProg i arg2 arg6 harg6 sem2 (k0_off6 s e t) (k0_off6_inb s e hw.down t) (firstW s (Scf.iv (remW s e) 1#32 t)) (lastW s e (Scf.iv (remW s e) 1#32 t)) (untup acc) >>= fun a => .ret (tup a)) >>= fun acc =>
  steps (storeProg i arg7 g fun j => divf (untup acc j) (denom s e)) [0, 1, 2] ⟨⟩ >>= fun _ => .ret (pack g s e (untup acc))) >>= fun d =>
  steps (storeProg i arg7 g (unpack d)) [3, 4, 5, 6, 7, 8, 9, 10, 11, 12, 13, 14, 15] ⟨⟩

/-- The cut does not matter. -/
theorem groupCut_eq (arg2 : Memref sig .scVector .hbm S100032x256 .f32) (arg6 : Memref sig .scVector .vmem S32x256 .f32) (harg6 : arg6.IsWhole)
    (arg7 : Memref sig .scVector .vmem S16x256 .f32) (arg8 : Memref sig .scVector .smem S17 .i32) (sem1 sem2 : DmaSems sig S_)
    (g : Fin k0_t3_loop.trips) :
    groupCut (F := F) i arg2 arg6 harg6 arg7 arg8 sem1 sem2 g = groupProg i arg2 arg6 harg6 arg7 arg8 sem1 sem2 g := by
  funext _
  unfold groupCut groupProg
  simp only [Prog.bind_op, Prog.bind_ret, Prog.bind_assoc]
  rfl

/-- The number of the task at a grid point. -/
def taskW : BitVec 32 := Scalar.addi (Scalar.muli (BitVec.ofNat 32 (i 0).val) 16#32) (BitVec.ofNat 32 (i 1).val)
/-- The segment number whose first row the task's `k`-th search finds. -/
def targetW (k : Nat) : BitVec 32 := Scalar.addi (Scalar.muli (taskW i) 16#32) (Scalar.addi 0#32 (Scalar.muli (Scf.iv 0#32 1#32 k) 1#32))

/-- The middle of a search's interval. -/
def midW (lo hi : BitVec 32) : BitVec 32 := Scalar.divsi (Scalar.addi lo hi) 2#32
/-- The interval after a step of the search for `t`, `w` the word read at the middle. -/
def nextW (t : BitVec 32) (s : BitVec 32 × BitVec 32) (w : BitVec 32) : BitVec 32 × BitVec 32 :=
  (Scalar.select (Scalar.cmpi .slt w t) (Scalar.addi (midW s.1 s.2) 1#32) s.1, Scalar.select (Scalar.cmpi .slt w t) s.2 (midW s.1 s.2))
/-- The first of sixteen words. -/
def firstWord (w : Vec F S16 .i32) : BitVec 32 :=
  extractAt ![0] (extractStridedSlice S1 ![0] (shapeCast S16 (w : IVec S16 32) shapeCasts_S16_S16) slices_S16_o0_S1) inpos_S1_p0

/-- One step of a search. -/
def searchProg (arg5 : Memref sig .scVector .vmem S100032 .i32) (t : BitVec 32) (s : BitVec 32 × BitVec 32) : PR F i (BitVec 32 × BitVec 32) :=
  .op (.assume (k0_chk1 s.1 s.2) (k0_chk1.dec s.1 s.2)) fun hw =>
  .op (.load arg5 (Rect.unit (s := S100032) (k0_off1 s.1 s.2) S16.size (k0_off1_inb s.1 s.2 hw.down)).toLoadRect (View.loadsAt_vmem h_S16)) fun (w : Vec F S16 .i32) =>
  .ret (nextW t s (firstWord w))

/-- One search, its result stored. -/
def boundProg (arg5 : Memref sig .scVector .vmem S100032 .i32) (arg8 : Memref sig .scVector .smem S17 .i32) (k : Fin k0_t1_loop.trips) (_ : PUnit) : PR F i PUnit :=
  Scf.Loop.for k0_t2_loop k0_t2_ok (0#32, 100000#32) (fun _ s => searchProg i arg5 (targetW i k) s) >>= fun s =>
  smemLoad arg8 (Rect.unit (s := S17) (k0_off2 k) S1.size (k0_off2_inb k)) numel1_S1 rfl >>= fun _ =>
  .op (.store arg8 (Rect.unit (s := S17) (k0_off2 k) S1.size (k0_off2_inb k)) (fun _ => s.1) Finset.univ (View.stores_smem_one rfl numel1_S1) (.inl rfl)) fun _ =>
  .ret ⟨⟩

/-- The kernel. -/
def kern (arg2 : Memref sig .scVector .hbm S100032x256 .f32) (harg2 : arg2.IsWhole) (arg3 : Memref sig .scVector .hbm S100032 .i32) (harg3 : arg3.IsWhole) (arg4 : Memref sig .scVector .hbm S512x256 .f32) (harg4 : arg4.IsWhole) (arg5 : Memref sig .scVector .vmem S100032 .i32) (harg5 : arg5.IsWhole) (arg6 : Memref sig .scVector .vmem S32x256 .f32) (harg6 : arg6.IsWhole) (arg7 : Memref sig .scVector .vmem S16x256 .f32) (harg7 : arg7.IsWhole) (arg8 : Memref sig .scVector .smem S17 .i32) (harg8 : arg8.IsWhole) (v6_r0 : DmaSems sig S_) (v3285_r1 : DmaSems sig S_) (v3285_r2 : DmaSems sig S_) (v6_r3 : DmaSems sig S_) : PR F i PUnit :=
  .op (.enqueueDma arg3 (.here arg5) (.dma v6_r0.sem) harg3.wordExact harg5.wordExact ⟨Or.inl rfl, trivial⟩) fun _ =>
  .op (.waitDma2 v6_r0.sem arg3 arg5 harg3.wordExact harg5.wordExact) fun _ =>
  Scf.Loop.for k0_t1_loop k0_t1_ok ⟨⟩ (boundProg i arg5 arg8) >>= fun _ =>
  Scf.Loop.for k0_t3_loop k0_t3_ok ⟨⟩ (groupProg i arg2 arg6 harg6 arg7 arg8 v3285_r1 v3285_r2) >>= fun _ =>
  .op (.enqueueDma arg7 (.here (arg4.slice (Rect.unit (s := S512x256) (k0_off23 i) S16x256.size (k0_off23_inb i)) (fun _ => rfl))) (.dma v6_r3.sem) harg7.wordExact (View.wordExact_bits rfl) ⟨Or.inl rfl, trivial⟩) fun _ =>
  .op (.waitDma2 v6_r3.sem arg7 (arg4.slice (Rect.unit (s := S512x256) (k0_off23 i) S16x256.size (k0_off23_inb i)) (fun _ => rfl)) harg7.wordExact (View.wordExact_bits rfl)) fun _ =>
  .ret ⟨⟩

/-- The kernel, its segments cut as the printed text is. -/
def kernCut (arg2 : Memref sig .scVector .hbm S100032x256 .f32) (harg2 : arg2.IsWhole) (arg3 : Memref sig .scVector .hbm S100032 .i32) (harg3 : arg3.IsWhole) (arg4 : Memref sig .scVector .hbm S512x256 .f32) (harg4 : arg4.IsWhole) (arg5 : Memref sig .scVector .vmem S100032 .i32) (harg5 : arg5.IsWhole) (arg6 : Memref sig .scVector .vmem S32x256 .f32) (harg6 : arg6.IsWhole) (arg7 : Memref sig .scVector .vmem S16x256 .f32) (harg7 : arg7.IsWhole) (arg8 : Memref sig .scVector .smem S17 .i32) (harg8 : arg8.IsWhole) (v6_r0 : DmaSems sig S_) (v3285_r1 : DmaSems sig S_) (v3285_r2 : DmaSems sig S_) (v6_r3 : DmaSems sig S_) : PR F i PUnit :=
  .op (.enqueueDma arg3 (.here arg5) (.dma v6_r0.sem) harg3.wordExact harg5.wordExact ⟨Or.inl rfl, trivial⟩) fun _ =>
  .op (.waitDma2 v6_r0.sem arg3 arg5 harg3.wordExact harg5.wordExact) fun _ =>
  Scf.Loop.for k0_t1_loop k0_t1_ok ⟨⟩ (boundProg i arg5 arg8) >>= fun _ =>
  Scf.Loop.for k0_t3_loop k0_t3_ok ⟨⟩ (groupCut i arg2 arg6 harg6 arg7 arg8 v3285_r1 v3285_r2) >>= fun _ =>
  .op (.enqueueDma arg7 (.here (arg4.slice (Rect.unit (s := S512x256) (k0_off23 i) S16x256.size (k0_off23_inb i)) (fun _ => rfl))) (.dma v6_r3.sem) harg7.wordExact (View.wordExact_bits rfl) ⟨Or.inl rfl, trivial⟩) fun _ =>
  .op (.waitDma2 v6_r3.sem arg7 (arg4.slice (Rect.unit (s := S512x256) (k0_off23 i) S16x256.size (k0_off23_inb i)) (fun _ => rfl)) harg7.wordExact (View.wordExact_bits rfl)) fun _ =>
  .ret ⟨⟩

/-- The printed kernel is this program. -/
theorem kern_eq (arg2 : Memref sig .scVector .hbm S100032x256 .f32) (harg2 : arg2.IsWhole) (arg3 : Memref sig .scVector .hbm S100032 .i32) (harg3 : arg3.IsWhole) (arg4 : Memref sig .scVector .hbm S512x256 .f32) (harg4 : arg4.IsWhole) (arg5 : Memref sig .scVector .vmem S100032 .i32) (harg5 : arg5.IsWhole) (arg6 : Memref sig .scVector .vmem S32x256 .f32) (harg6 : arg6.IsWhole) (arg7 : Memref sig .scVector .vmem S16x256 .f32) (harg7 : arg7.IsWhole) (arg8 : Memref sig .scVector .smem S17 .i32) (harg8 : arg8.IsWhole) (v6_r0 : DmaSems sig S_) (v3285_r1 : DmaSems sig S_) (v3285_r2 : DmaSems sig S_) (v6_r3 : DmaSems sig S_) : cc0_k (F := F) i arg2 harg2 arg3 harg3 arg4 harg4 arg5 harg5 arg6 harg6 arg7 harg7 arg8 harg8 v6_r0 v3285_r1 v3285_r2 v6_r3 = kern i arg2 harg2 arg3 harg3 arg4 harg4 arg5 harg5 arg6 harg6 arg7 harg7 arg8 harg8 v6_r0 v3285_r1 v3285_r2 v6_r3 := by
  refine Eq.trans (b := kernCut i arg2 harg2 arg3 harg3 arg4 harg4 arg5 harg5 arg6 harg6 arg7 harg7 arg8 harg8 v6_r0 v3285_r1 v3285_r2 v6_r3) ?_ ?_
  · sl_kernel_rfl
  · unfold kernCut kern
    rw [show groupCut (F := F) i arg2 arg6 harg6 arg7 arg8 v3285_r1 v3285_r2 = groupProg i arg2 arg6 harg6 arg7 arg8 v3285_r1 v3285_r2 from
      funext fun g => groupCut_eq i arg2 arg6 harg6 arg7 arg8 v3285_r1 v3285_r2 g]

end Cert.KernelIdeal.Seg

end
-- ==== Proof.KernelIdealWords.lean ====
/-
  The words the kernel computes, read as integers: the middle of a search's interval, the first row and the number of
  chunks of a segment, which rows of a chunk count. From them the kernel's side conditions, which hold whatever the
  segment numbers are, and the result of a search in a sorted array.
-/
module

public import proofs.«01_k».proof.Proof.KernelIdealProg
public import Idealize.ShloMosaic.Lib.Affine
public import Idealize.ShloMosaic.Lib.LoopRemainder

@[expose] public section

noncomputable section

namespace Cert.KernelIdeal.Seg

open Idealize.ShloMosaic Idealize.SL.Sem
open Idealize.ShloMosaic.Affine (IsInt)
open Cert.KernelIdeal Cert.KernelIdeal.Gen

variable {F : FTy → Type} [FloatOps F]

/-! ## Words as integers -/

theorem isInt_of_toNat {x : BitVec 32} {n : Nat} (h : x.toNat = n) (hn : n < 2 ^ 31) : IsInt x n := by
  unfold IsInt
  rw [BitVec.toInt_eq_toNat_cond, if_pos (by omega), h]

theorem toInt_of_isInt {x : BitVec 32} {n : Int} (h : IsInt x n) : x.toInt = n := by
  unfold IsInt at h; exact h

theorem toNat_of_isInt {x : BitVec 32} {n : Nat} (h : IsInt x n) : x.toNat = n := by
  have h := toInt_of_isInt h
  rw [BitVec.toInt_eq_toNat_cond] at h
  have := x.isLt
  split at h <;> omega

/-- Division by 32 of a word of moderate size: the quotient where the word is not negative, not positive otherwise. -/
theorem quot (x : BitVec 32) {X : Int} (hx : IsInt x X) (h : -2 ^ 30 ≤ X ∧ X ≤ 2 ^ 30) :
    ∃ n : Int, IsInt (Scalar.divsi x 32#32) n ∧ n.toNat = X.toNat / 32 ∧ -2 ^ 30 ≤ n ∧ n ≤ 2 ^ 30 := by
  by_cases h0 : 0 ≤ X
  · refine ⟨X / 32, Affine.divsi hx (Affine.ofNat 32 ⟨rfl, by decide⟩) ⟨rfl, h0, by decide⟩, ?_, ?_, ?_⟩ <;> omega
  · have hc : ¬IntOp.SDivCorner x 32#32 := by
      rintro (h | ⟨-, h⟩)
      · exact absurd h (by decide)
      · exact absurd h (by decide)
    have hq : (Scalar.divsi x 32#32).toInt = X.tdiv 32 := by
      rw [Scalar.divsi, IntOp.divsi, if_neg hc, BitVec.toInt_sdiv_of_ne_or_ne _ _ (.inr (by decide)), toInt_of_isInt hx]
      rfl
    refine ⟨X.tdiv 32, by unfold IsInt; exact hq, ?_⟩
    have : X.tdiv 32 ≤ 0 ∧ -2 ^ 30 ≤ X.tdiv 32 := by
      obtain ⟨k, rfl⟩ : ∃ k : Nat, X = -(k : Int) := ⟨X.natAbs, by omega⟩
      rw [Int.neg_tdiv, show (k : Int).tdiv 32 = (k : Int) / 32 from Int.tdiv_eq_ediv_of_nonneg (by omega)]
      omega
    omega

/-! ## The searches -/

/-- The interval after `k` steps of the search for `t` in the words `B`. -/
def searchW (B : Nat → BitVec 32) (t : BitVec 32) : Nat → BitVec 32 × BitVec 32
  | 0 => (0#32, 100000#32)
  | k + 1 => nextW t (searchW B t k) (B (midW (searchW B t k).1 (searchW B t k).2).toNat)

/-- The result of the search. -/
def boundW (B : Nat → BitVec 32) (t : BitVec 32) : BitVec 32 := (searchW B t k0_t2_loop.trips).1

/-- An interval stays within the array. -/
def Small (s : BitVec 32 × BitVec 32) : Prop := s.1.toNat ≤ 100001 ∧ s.2.toNat ≤ 100000

theorem toNat_midW {s : BitVec 32 × BitVec 32} (h : Small s) : (midW s.1 s.2).toNat = (s.1.toNat + s.2.toNat) / 2 := by
  obtain ⟨h1, h2⟩ := h
  refine toNat_of_isInt (Affine.divsi (Affine.addi (isInt_of_toNat rfl (by omega)) (isInt_of_toNat rfl (by omega)) ⟨rfl, by omega, by omega⟩)
    (Affine.ofNat 2 ⟨rfl, by decide⟩) ⟨?_, ?_, ?_⟩) <;> omega

theorem off1_eq (lo hi : BitVec 32) : k0_off1 lo hi = ![(midW lo hi).toNat] := rfl

/-- The load of a step stays within the array. -/
theorem chk1_of_small {s : BitVec 32 × BitVec 32} (h : Small s) : k0_chk1 s.1 s.2 := by
  intro a
  have hm := toNat_midW h
  obtain ⟨h1, h2⟩ := h
  rw [off1_eq]
  fin_cases a
  show (midW s.1 s.2).toNat + 16 ≤ 100032
  omega

theorem nextW_cases (t : BitVec 32) (s : BitVec 32 × BitVec 32) (w : BitVec 32) :
    (w.toInt < t.toInt ∧ nextW t s w = (Scalar.addi (midW s.1 s.2) 1#32, s.2)) ∨ (¬ w.toInt < t.toInt ∧ nextW t s w = (s.1, midW s.1 s.2)) := by
  by_cases h : w.toInt < t.toInt
  · have hc : Scalar.cmpi .slt w t = 1#1 := Affine.slt_holds (Affine.word w) (Affine.word t) h
    exact .inl ⟨h, by simp only [nextW, Scalar.select, hc]; rfl⟩
  · have hc : ¬ Scalar.cmpi .slt w t = 1#1 := Affine.slt_fails (Affine.word w) (Affine.word t) h
    refine .inr ⟨h, ?_⟩
    simp only [nextW, Scalar.select]
    rw [if_neg (show ¬ Scalar.cmpi .slt w t = 1 from hc), if_neg (show ¬ Scalar.cmpi .slt w t = 1 from hc)]

theorem toNat_succ_midW {s : BitVec 32 × BitVec 32} (h : Small s) : (Scalar.addi (midW s.1 s.2) 1#32).toNat = (s.1.toNat + s.2.toNat) / 2 + 1 := by
  have hm := toNat_midW h
  obtain ⟨h1, h2⟩ := h
  refine toNat_of_isInt (Affine.addi (isInt_of_toNat hm (by omega)) (Affine.ofNat 1 ⟨rfl, by decide⟩) ⟨?_, ?_, ?_⟩) <;> omega

theorem small_nextW (t : BitVec 32) {s : BitVec 32 × BitVec 32} (h : Small s) (w : BitVec 32) : Small (nextW t s w) := by
  have hm := toNat_midW h
  have hm' := toNat_succ_midW h
  obtain ⟨h1, h2⟩ := h
  rcases nextW_cases t s w with ⟨-, e⟩ | ⟨-, e⟩ <;> rw [e] <;> constructor <;> dsimp only <;> omega

theorem small_searchW (B : Nat → BitVec 32) (t : BitVec 32) : ∀ k, Small (searchW B t k)
  | 0 => ⟨show (0#32 : BitVec 32).toNat ≤ 100001 by decide, show (100000#32 : BitVec 32).toNat ≤ 100000 by decide⟩
  | k + 1 => small_nextW t (small_searchW B t k) _

theorem boundW_le (B : Nat → BitVec 32) (t : BitVec 32) : (boundW B t).toNat ≤ 100001 := (small_searchW B t _).1

theorem search_inv {B : Nat → BitVec 32} {t : BitVec 32} (hB : ∀ a b, a ≤ b → b < 100000 → (B a).toInt ≤ (B b).toInt)
    (hend : t.toInt ≤ (B 100000).toInt) : ∀ k,
    (searchW B t k).1.toNat ≤ (searchW B t k).2.toNat ∧ (∀ n < (searchW B t k).1.toNat, (B n).toInt < t.toInt)
      ∧ (∀ n, (searchW B t k).2.toNat ≤ n → n ≤ 100000 → t.toInt ≤ (B n).toInt)
      ∧ (searchW B t k).2.toNat - (searchW B t k).1.toNat ≤ 100000 / 2 ^ k
  | 0 => ⟨show (0#32 : BitVec 32).toNat ≤ (100000#32 : BitVec 32).toNat by decide, fun n hn => absurd hn (by show ¬ n < 0; omega), fun n h1 h2 => by
      have : n = 100000 := le_antisymm h2 h1
      rw [this]; exact hend, show (100000#32 : BitVec 32).toNat - (0#32 : BitVec 32).toNat ≤ 100000 / 2 ^ 0 by decide⟩
  | k + 1 => by
    obtain ⟨i1, i2, i3, i4⟩ := search_inv hB hend k
    have hs := small_searchW B t k
    have hm := toNat_midW hs
    have hm' := toNat_succ_midW hs
    obtain ⟨h1, h2⟩ := hs
    show (nextW t (searchW B t k) _).1.toNat ≤ (nextW t (searchW B t k) _).2.toNat ∧ (∀ n < (nextW t (searchW B t k) _).1.toNat, _)
      ∧ (∀ n, (nextW t (searchW B t k) _).2.toNat ≤ n → _) ∧ (nextW t (searchW B t k) _).2.toNat - (nextW t (searchW B t k) _).1.toNat ≤ _
    have hw : 100000 / 2 ^ (k + 1) = 100000 / 2 ^ k / 2 := by rw [pow_succ, Nat.div_div_eq_div_mul]
    rcases nextW_cases t (searchW B t k) (B (midW (searchW B t k).1 (searchW B t k).2).toNat) with ⟨hlt, e⟩ | ⟨hge, e⟩
    · rw [e]; dsimp only
      have hlt' : (searchW B t k).1.toNat < (searchW B t k).2.toNat := by
        by_contra hc
        have := i3 (midW (searchW B t k).1 (searchW B t k).2).toNat (by omega) (by omega)
        omega
      refine ⟨by omega, fun n hn => ?_, i3, by rw [hw]; omega⟩
      by_cases hc : (midW (searchW B t k).1 (searchW B t k).2).toNat = 100000
      · rw [hc] at hlt; omega
      have := hB n (midW (searchW B t k).1 (searchW B t k).2).toNat (by omega) (by omega)
      omega
    · rw [e]; dsimp only
      refine ⟨by omega, i2, fun n hn hn' => ?_, by rw [hw]; omega⟩
      by_cases hc : n = 100000
      · rw [hc]; exact hend
      have := hB (midW (searchW B t k).1 (searchW B t k).2).toNat n (by omega) (by omega)
      omega

/-- The search in a sorted array finds the number of words before the target. -/
theorem boundW_spec {B : Nat → BitVec 32} {t : BitVec 32} (hB : ∀ a b, a ≤ b → b < 100000 → (B a).toInt ≤ (B b).toInt)
    (hend : t.toInt ≤ (B 100000).toInt) :
    (boundW B t).toNat ≤ 100000 ∧ ∀ n ≤ 100000, (n < (boundW B t).toNat ↔ (B n).toInt < t.toInt) := by
  obtain ⟨i1, i2, i3, i4⟩ := search_inv hB hend k0_t2_loop.trips
  have ht : 100000 / 2 ^ k0_t2_loop.trips = 0 := by decide +kernel
  have hs := small_searchW B t k0_t2_loop.trips
  rw [ht] at i4
  obtain ⟨h1, h2⟩ := hs
  unfold boundW
  refine ⟨by omega, fun n hn => ⟨i2 n, fun h => ?_⟩⟩
  by_contra hc
  have := i3 n (by omega) hn
  omega

/-! ## The segments -/

variable {s e : BitVec 32}

theorem isInt_baseW (hs : s.toNat ≤ 100001) : IsInt (baseW s) ((s.toNat / 8 * 8 : Nat) : Int) := by
  refine Affine.muli (Affine.divsi (isInt_of_toNat rfl (by omega)) (Affine.ofNat 8 ⟨rfl, by decide⟩) ⟨rfl, by omega, by decide⟩)
    (Affine.ofNat 8 ⟨rfl, by decide⟩) ⟨?_, ?_, ?_⟩ <;> omega

/-- The upper bound of the chunks' loop. -/
theorem t4_ub (s e : BitVec 32) : (k0_t4_loop s e).ub = Scalar.addi 0#32 (Scalar.muli (Scalar.divsi (Scalar.subi (Scalar.divsi (Scalar.addi (Scalar.subi e (baseW s)) 31#32) 32#32) 0#32) 1#32) 1#32) := rfl

theorem isInt_t4_ub (hs : s.toNat ≤ 100001) (he : e.toNat ≤ 100001) :
    ∃ n : Int, IsInt (k0_t4_loop s e).ub n ∧ n.toNat = (e.toNat + 31 - s.toNat / 8 * 8) / 32 ∧ -2 ^ 30 ≤ n ∧ n ≤ 2 ^ 30 := by
  obtain ⟨n, hn, h1, h2, h3⟩ := quot (Scalar.addi (Scalar.subi e (baseW s)) 31#32) (X := (e.toNat : Int) - ((s.toNat / 8 * 8 : Nat) : Int) + 31)
    (Affine.addi (Affine.subi (isInt_of_toNat rfl (by omega)) (isInt_baseW hs) ⟨rfl, by omega, by omega⟩) (Affine.ofNat 31 ⟨rfl, by decide⟩)
      ⟨rfl, by omega, by omega⟩) (by omega)
  refine ⟨n, ?_, by omega, h2, h3⟩
  rw [t4_ub, Scalar.muli_divsi_one]
  exact Affine.addi (Affine.ofNat 0 ⟨rfl, by decide⟩) (Affine.subi hn (Affine.ofNat 0 ⟨rfl, by decide⟩) ⟨rfl, by omega, by omega⟩) ⟨by omega, by omega, by omega⟩

theorem t4_ok (hs : s.toNat ≤ 100001) (he : e.toNat ≤ 100001) : (k0_t4_loop s e).OK := by
  obtain ⟨n, hn, -, h2, h3⟩ := isInt_t4_ub hs he
  exact Affine.ok (Affine.ofNat 0 ⟨rfl, by decide⟩) hn (Affine.ofNat 1 ⟨rfl, by decide⟩) ⟨by decide, by omega⟩

/-- The number of chunks of a segment. -/
theorem t4_trips (hs : s.toNat ≤ 100001) (he : e.toNat ≤ 100001) :
    (k0_t4_loop s e).trips = (e.toNat + 31 - s.toNat / 8 * 8) / 32 := by
  obtain ⟨n, hn, h1, -, -⟩ := isInt_t4_ub hs he
  have h := toInt_of_isInt hn
  show (((k0_t4_loop s e).ub.toInt - (0#32 : BitVec 32).toInt + (1#32 : BitVec 32).toInt - 1) / (1#32 : BitVec 32).toInt).toNat = _
  rw [h, show (0#32 : BitVec 32).toInt = 0 by decide, show (1#32 : BitVec 32).toInt = 1 by decide]
  omega

/-- The first row of chunk `c` of a segment. -/
def rowAt (s : BitVec 32) (c : Nat) : Nat := (Scalar.addi (baseW s) (Scalar.muli (Scf.iv 0#32 1#32 c) 32#32)).toNat

theorem isInt_iv {c : Nat} (hc : c ≤ 100001) : IsInt (Scf.iv 0#32 1#32 c) (c : Int) :=
  Affine.iv (Affine.ofNat 0 ⟨rfl, by decide⟩) (Affine.ofNat 1 ⟨rfl, by decide⟩) c ⟨by omega, by omega, by omega⟩

theorem rowAt_eq (hs : s.toNat ≤ 100001) {c : Nat} (hc : c ≤ 100001) : rowAt s c = s.toNat / 8 * 8 + 32 * c :=
  toNat_of_isInt (Affine.addi (isInt_baseW hs) (Affine.muli (isInt_iv hc) (Affine.ofNat 32 ⟨rfl, by decide⟩) ⟨rfl, by omega, by omega⟩)
    ⟨by omega, by omega, by omega⟩)

theorem off5_eq (s e : BitVec 32) (c : Fin (k0_t4_loop s e).trips) : k0_off5 s e c = ![rowAt s c, 0] := rfl

theorem t4_lt (hs : s.toNat ≤ 100001) (he : e.toNat ≤ 100001) {c : Nat} (hc : c < (k0_t4_loop s e).trips) :
    c ≤ 100001 ∧ s.toNat / 8 * 8 + 32 * c < e.toNat := by
  rw [t4_trips hs he] at hc
  omega

theorem rowAt_le (hs : s.toNat ≤ 100001) (he : e.toNat ≤ 100001) {c : Nat} (hc : c < (k0_t4_loop s e).trips) : rowAt s c + 32 ≤ 100032 := by
  have := t4_lt hs he hc
  rw [rowAt_eq hs this.1]
  omega

/-- The side condition of a segment. -/
theorem chk2_of_le (hs : s.toNat ≤ 100001) (he : e.toNat ≤ 100001) : k0_chk2 s e := by
  refine ⟨t4_ok hs he, fun c a => ?_, Scf.rem_ok _ _, fun c => (Scf.rem_no_trip _ _ c).elim⟩
  have := rowAt_le hs he c.isLt
  rw [off5_eq]
  fin_cases a
  · exact this
  · show 0 + 256 ≤ 256; omega

/-- A row of a chunk counts where it lies in the segment. -/
theorem counts_iff (hs : s.toNat ≤ 100001) (he : e.toNat ≤ 100001) {c : Nat} (hc : c < (k0_t4_loop s e).trips) (r : Fin 32) :
    counts (firstW s (Scf.iv 0#32 1#32 c)) (lastW s e (Scf.iv 0#32 1#32 c)) r = 1#1
      ↔ s.toNat ≤ rowAt s c + r.val ∧ rowAt s c + r.val < e.toNat := by
  have ht := t4_lt hs he hc
  rw [rowAt_eq hs ht.1]
  have hr := r.isLt
  have hiv := isInt_iv ht.1
  have hsub : IsInt (Scalar.subi s (baseW s)) ((s.toNat : Int) - ((s.toNat / 8 * 8 : Nat) : Int)) :=
    Affine.subi (isInt_of_toNat rfl (by omega)) (isInt_baseW hs) ⟨rfl, by omega, by omega⟩
  have h0 : IsInt (0#32 : BitVec 32) ((0 : Nat) : Int) := Affine.ofNat 0 ⟨rfl, by decide⟩
  obtain ⟨f, hf, hfe⟩ : ∃ f : Int, IsInt (firstW s (Scf.iv 0#32 1#32 c)) f ∧ (f ≤ r.val ↔ s.toNat ≤ s.toNat / 8 * 8 + 32 * c + r.val) := by
    by_cases h : c = 0
    · exact ⟨_, Affine.select_holds (Affine.eq_holds hiv h0 (by omega)) hsub h0 rfl, by omega⟩
    · exact ⟨_, Affine.select_fails (Affine.eq_fails hiv h0 (by omega)) hsub h0 rfl, by omega⟩
  have hl : IsInt (lastW s e (Scf.iv 0#32 1#32 c)) (min ((32 : Nat) : Int) ((e.toNat : Int) - ((s.toNat / 8 * 8 : Nat) : Int) - (c : Int) * ((32 : Nat) : Int))) :=
    Affine.minsi (Affine.ofNat 32 ⟨rfl, by decide⟩) (Affine.subi (Affine.subi (isInt_of_toNat rfl (by omega)) (isInt_baseW hs) ⟨rfl, by omega, by omega⟩)
      (Affine.muli hiv (Affine.ofNat 32 ⟨rfl, by decide⟩) ⟨rfl, by omega, by omega⟩) ⟨rfl, by omega, by omega⟩) rfl
  have hrw : IsInt (BitVec.ofNat 32 r.val) (r.val : Int) := Affine.ofNat _ ⟨rfl, by omega⟩
  have hand : ∀ a b : BitVec 1, Scalar.andi a b = 1#1 ↔ a = 1#1 ∧ b = 1#1 := by decide
  have h1 : Scalar.cmpi .sle (firstW s (Scf.iv 0#32 1#32 c)) (BitVec.ofNat 32 r.val) = 1#1 ↔ f ≤ r.val :=
    ⟨fun h => by by_contra hc; exact Affine.sle_fails hf hrw hc h, Affine.sle_holds hf hrw⟩
  have h2 : Scalar.cmpi .sgt (lastW s e (Scf.iv 0#32 1#32 c)) (BitVec.ofNat 32 r.val) = 1#1
      ↔ (r.val : Int) < min ((32 : Nat) : Int) ((e.toNat : Int) - ((s.toNat / 8 * 8 : Nat) : Int) - (c : Int) * ((32 : Nat) : Int)) :=
    ⟨fun h => by by_contra hc; exact Affine.sgt_fails hl hrw hc h, Affine.sgt_holds hl hrw⟩
  rw [counts, hand, h1, h2, hfe]
  omega

/-- The target of a task's search: 16 times the task's number and the search's. -/
theorem targetW_eq (i : grid0.Coords) : ∀ k < 17, targetW i k = BitVec.ofNat 32 (256 * (i 0).val + 16 * (i 1).val + k) := by
  revert i; decide +kernel

end Cert.KernelIdeal.Seg

end
-- ==== Proof.KernelIdealTask.lean ====
/-
  One vector subcore's task: what each part of the program leaves, from what it holds.
-/
module

public import proofs.«01_k».proof.Proof.KernelIdealWords
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value

@[expose] public section

noncomputable section

namespace Cert.KernelIdeal.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The values -/

/-- Position `n` of a padded array of segment numbers. -/
def ix1 (n : Nat) : S100032.Idx := fun a => ⟨n % S100032.size a, Nat.mod_lt _ (by fin_cases a; decide)⟩
/-- Row `n`, column `x` of a padded feature array. -/
def ix2 (n x : Nat) : S100032x256.Idx := fun a => match a with
  | 0 => ⟨n % 100032, Nat.mod_lt _ (by decide)⟩
  | 1 => ⟨x % 256, Nat.mod_lt _ (by decide)⟩

/-- The segment numbers by position. -/
def wordAt (B : Vec F S100032 .i32) (n : Nat) : BitVec 32 := B (ix1 n)

/-- Lanes `16 j` to `16 j + 15` of row `n`. -/
def lanes (H : Vec F S100032x256 .f32) (n : Nat) (j : Fin 16) : Vec F S1x16 .f32 := fun x => H (ix2 n (16 * j.val + (x 1).val))

/-- The running sums with row `n` added where it counts. -/
def rowSum (H : Vec F S100032x256 .f32) (p : BitVec 1) (n : Nat) (a : Fin 16 → V F) : Fin 16 → V F := fun j => addLanes p (a j) (lanes H n j)

/-- The running sums with the rows that count of the chunk from row `n` added. -/
def chunkSum (H : Vec F S100032x256 .f32) (n : Nat) (r0 m : BitVec 32) (a : Fin 16 → V F) : Fin 16 → V F :=
  (List.finRange 32).foldl (fun a r => rowSum H (counts r0 m r) (n + r.val) a) a

/-- The running sums after `c` chunks of the segment from `s` to `e`. -/
def sums (H : Vec F S100032x256 .f32) (s e : BitVec 32) : Nat → Fin 16 → V F
  | 0 => fun _ => zeroV
  | c + 1 => chunkSum H (rowAt s c) (firstW s (Scf.iv 0#32 1#32 c)) (lastW s e (Scf.iv 0#32 1#32 c)) (sums H s e c)

theorem sums_zero (H : Vec F S100032x256 .f32) (s e : BitVec 32) : sums H s e 0 = fun _ => zeroV := rfl
theorem sums_succ (H : Vec F S100032x256 .f32) (s e : BitVec 32) (c : Nat) :
    sums H s e (c + 1) = chunkSum H (rowAt s c) (firstW s (Scf.iv 0#32 1#32 c)) (lastW s e (Scf.iv 0#32 1#32 c)) (sums H s e c) := rfl

attribute [irreducible] sums

/-- The mean of the segment from `s` to `e`, sixteen lanes at a time. -/
def mean (H : Vec F S100032x256 .f32) (s e : BitVec 32) (j : Fin 16) : V F := divf (sums H s e (k0_t4_loop s e).trips j) (denom s e)

/-- Entry `x` of a row given by its lanes. -/
def entry {α : Type} (v : Fin 16 → S16.Idx → α) (x : Fin 256) : α :=
  v ⟨x.val / 16, by omega⟩ fun a => match a with
    | 0 => ⟨x.val % 16, Nat.mod_lt _ (by decide)⟩

/-- The kernel's result: the mean of the segment between the two searches' results. -/
def result (H : Vec F S100032x256 .f32) (B : Vec F S100032 .i32) : Vec F S512x256 .f32 := fun x =>
  entry (mean H (boundW (wordAt B) (BitVec.ofNat 32 (x 0).val)) (boundW (wordAt B) (BitVec.ofNat 32 ((x 0).val + 1)))) (x 1)

/-! ## The launch's parameters -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

variable (d : Dev nD) (L : grid0.Coords)

/-- The subcore at grid point `L`. -/
abbrev thr : Thread nD τ := SparseCore.V d (cV L) (jV L)

abbrev hW : Memref sig .scVector .hbm S100032x256 .f32 := Memref.whole main_v1_scv
abbrev bW : Memref sig .scVector .hbm S100032 .i32 := Memref.whole main_v3_scv
abbrev oW : Memref sig .scVector .hbm S512x256 .f32 := Memref.whole main_v4_scv
abbrev m5 : Memref sig .scVector .vmem S100032 .i32 := Memref.whole cc0_scratch0
abbrev m6 : Memref sig .scVector .vmem S32x256 .f32 := Memref.whole cc0_scratch1
abbrev m7 : Memref sig .scVector .vmem S16x256 .f32 := Memref.whole cc0_scratch2
abbrev m8 : Memref sig .scVector .smem S17 .i32 := Memref.whole cc0_scratch3

/-- The weakest precondition of a program of the task. -/
abbrev tw {α : Type} (p : PR F L α) (Q : α → sProp 𝕄) : sProp 𝕄 := wp frame (wpE (defs₀ (F := F)) 𝒱₀ (thr d L) none) Set.univ p Q

/-! ## Steps in a row -/

/-- Steps that each take a state to the next while what is held goes along. -/
theorem tw_steps {α σ γ β : Type} (f : α → σ → PR F L σ) (g : α → σ → σ) (u : α → γ → γ) (R : γ → sProp 𝕄)
    (hf : ∀ x s c (k : σ → PR F L β) Q, R c ⊢ iprop((R (u x c) -∗ tw d L (k (g x s)) Q) -∗ tw d L (f x s >>= k) Q)) :
    ∀ (l : List α) s c (k : σ → PR F L β) Q,
      R c ⊢ iprop((R (l.foldl (fun c x => u x c) c) -∗ tw d L (k (l.foldl (fun s x => g x s) s)) Q) -∗ tw d L (steps f l s >>= k) Q)
  | [], s, c, k, Q => by
    show R c ⊢ iprop((R c -∗ tw d L (k s) Q) -∗ tw d L (k s) Q)
    iintro HR HK
    iapply HK; iexact HR
  | x :: l, s, c, k, Q => by
    have h1 := hf x s c (fun s' => steps f l s' >>= k) Q
    have h2 := tw_steps f g u R hf l (g x s) (u x c) k Q
    rw [show (steps f (x :: l) s >>= k) = (f x s >>= fun s' => steps f l s' >>= k) from Prog.bind_assoc _ _ _]
    iintro HR HK
    iapply h1 $$ HR
    iintro HR
    iapply h2 $$ HR
    iexact HK

/-! ## A chunk -/

/-- The chunk's buffer, in lanes. -/
def chunkLanes (f : Vec F S32x256 .f32) (r : Fin 32) (j : Fin 16) : Vec F S1x16 .f32 := fun x =>
  f fun a => match a with
    | 0 => r
    | 1 => ⟨16 * j.val + (x 1).val, by have h1 := j.isLt; have h2 : (x 1).val < 16 := (x 1).isLt; show _ < 256; omega⟩

theorem tw_lane {β : Type} (f6 : Vec F S32x256 .f32) (p : BitVec 1) (r : Fin 32) (j : Fin 16) (a : Fin 16 → V F) (k : (Fin 16 → V F) → PR F L β) (Q : β → sProp 𝕄) :
    (m6.view.loc (thr d L) ↦{fullShare} f6 : sProp 𝕄)
      ⊢ iprop(((m6.view.loc (thr d L) ↦{fullShare} f6) -∗ tw d L (k (Function.update a j (addLanes p (a j) (chunkLanes f6 r j)))) Q)
        -∗ tw d L (laneProg L m6 p r j a >>= k) Q) := by
  have e : m6.view.readAt (Elt F) (Rect.unit (s := S32x256) ![r.val, 16 * j.val] S1x16.size (chunk_inb r j)).toLoadRect f6 = chunkLanes f6 r j := by
    funext x
    show f6 _ = f6 _
    congr 1
    funext a
    apply Fin.ext
    match a with
    | 0 =>
      show r.val + 1 * (x 0).val = r.val
      have : (x 0).val < 1 := (x 0).isLt
      omega
    | 1 => show 16 * j.val + 1 * (x 1).val = 16 * j.val + (x 1).val; omega
  have h := wp_load (Γ := []) (defs := defs₀ (F := F)) 𝒱₀ (thr d L) none Set.univ (m := m6)
    (r := (Rect.unit (s := S32x256) ![r.val, 16 * j.val] S1x16.size (chunk_inb r j)).toLoadRect) (hl := View.loadsAt_vmem h_S1x16) (S := Finset.univ) (q := fullShare) (f := f6)
    (k := fun w => k (Function.update a j (addLanes p (a j) w))) (Q := Q) (Finset.subset_univ _)
  rw [e] at h
  exact h

theorem foldl_lanes {α : Type} (h : Fin 16 → α → α) : ∀ (l : List (Fin 16)) (_ : l.Nodup) (a : Fin 16 → α),
    l.foldl (fun a j => Function.update a j (h j (a j))) a = fun j => if j ∈ l then h j (a j) else a j
  | [], _, a => by simp
  | i :: l, hn, a => by
    obtain ⟨h1, h2⟩ := List.nodup_cons.mp hn
    rw [List.foldl_cons, foldl_lanes h l h2]
    funext j
    by_cases hj : j = i
    · subst hj; simp [h1]
    · simp [hj]

theorem tw_row {β : Type} (f6 : Vec F S32x256 .f32) (r0 m : BitVec 32) (r : Fin 32) (a : Fin 16 → V F) (k : (Fin 16 → V F) → PR F L β) (Q : β → sProp 𝕄) :
    (m6.view.loc (thr d L) ↦{fullShare} f6 : sProp 𝕄)
      ⊢ iprop(((m6.view.loc (thr d L) ↦{fullShare} f6) -∗ tw d L (k fun j => addLanes (counts r0 m r) (a j) (chunkLanes f6 r j)) Q)
        -∗ tw d L (rowProg L m6 r0 m r a >>= k) Q) := by
  have h := tw_steps d L (laneProg L m6 (counts r0 m r) r) (fun j a => Function.update a j (addLanes (counts r0 m r) (a j) (chunkLanes f6 r j)))
    (fun _ (c : Unit) => c) (fun _ => (m6.view.loc (thr d L) ↦{fullShare} f6 : sProp 𝕄)) (fun j a _ k Q => tw_lane d L f6 (counts r0 m r) r j a k Q)
    (List.finRange 16) a () k Q
  rw [foldl_lanes (fun j v => addLanes (counts r0 m r) v (chunkLanes f6 r j)) _ (List.nodup_finRange 16)] at h
  simp only [List.mem_finRange, if_true] at h
  exact h

theorem tw_rows {β : Type} (f6 : Vec F S32x256 .f32) (r0 m : BitVec 32) (a : Fin 16 → V F) (k : (Fin 16 → V F) → PR F L β) (Q : β → sProp 𝕄) :
    (m6.view.loc (thr d L) ↦{fullShare} f6 : sProp 𝕄)
      ⊢ iprop(((m6.view.loc (thr d L) ↦{fullShare} f6)
          -∗ tw d L (k ((List.finRange 32).foldl (fun a r => fun j => addLanes (counts r0 m r) (a j) (chunkLanes f6 r j)) a)) Q)
        -∗ tw d L (steps (rowProg L m6 r0 m) (List.finRange 32) a >>= k) Q) :=
  tw_steps d L (rowProg L m6 r0 m) (fun r a => fun j => addLanes (counts r0 m r) (a j) (chunkLanes f6 r j))
    (fun _ (c : Unit) => c) (fun _ => (m6.view.loc (thr d L) ↦{fullShare} f6 : sProp 𝕄)) (fun r a _ k Q => tw_row d L f6 r0 m r a k Q)
    (List.finRange 32) a () k Q

variable (O : CellTallies nD τ sig (HIx 1)) (W : Waits sig (HIx 1))

/-- What a task owes, its waits recorded. -/
def owed : sProp 𝕄 := iprop(∃ W', ⌜∀ p ∈ W', p ∈ W ∨ p.2 = none⌝ ∗ owes (thr d L) O W')

/-- The chunk's buffer once rows `n` to `n + 31` have come in. -/
def fetched (H : Vec F S100032x256 .f32) (n : Nat) : Vec F S32x256 .f32 := fun x => H (ix2 (n + (x 0).val) (x 1).val)

theorem fetch_eq (H : Vec F S100032x256 .f32) (off : Fin 2 → Nat) (hoff : ∀ a, off a + S32x256.size a ≤ S100032x256.size a) :
    ReadAs.same.apply ((hW.slice (Rect.unit (s := S100032x256) off S32x256.size hoff) (fun _ => rfl)).view.read (Elt F) H) = fetched H (off 0) := by
  have h0 : off 0 + 32 ≤ 100032 := hoff 0
  have h1 : off 1 + 256 ≤ 256 := hoff 1
  funext x
  show H _ = H _
  congr 1
  funext a
  apply Fin.ext
  match a with
  | 0 =>
    have hx : (x 0).val < 32 := (x 0).isLt
    show off 0 + 1 * (x 0).val = (off 0 + (x 0).val) % 100032
    omega
  | 1 =>
    have hx : (x 1).val < 256 := (x 1).isLt
    show off 1 + 1 * (x 1).val = (x 1).val % 256
    omega

theorem tw_fetch {α : Type} (q : PosShare TreeShare) (H : Vec F S100032x256 .f32) (off : Fin 2 → Nat) (hoff : ∀ a, off a + S32x256.size a ≤ S100032x256.size a)
    (sem : DmaSems sig S_) (p : PR F L α) (Q : α → sProp 𝕄) :
    iprop(Transfers.MayWaits (thr d L) (none : HIx 1) O ∗ (hW.view.loc (thr d L) ↦{q} H) ∗ (∃ f6, m6.view.loc (thr d L) ↦{fullShare} f6)
        ∗ semVal (thr d L, SemLoc.dma sem.sem) 0 ∗ owed d L O W)
      ⊢ iprop((iprop(Transfers.MayWaits (thr d L) (none : HIx 1) O ∗ (hW.view.loc (thr d L) ↦{q} H) ∗ (m6.view.loc (thr d L) ↦{fullShare} fetched H (off 0))
          ∗ semVal (thr d L, SemLoc.dma sem.sem) 0 ∗ owed d L O W) -∗ tw d L p Q)
        -∗ tw d L (.op (.enqueueDma (hW.slice (Rect.unit (s := S100032x256) off S32x256.size hoff) (fun _ => rfl)) (.here m6) (.dma sem.sem) (View.wordExact_bits rfl) (Memref.isWhole_whole _).wordExact ⟨Or.inl rfl, trivial⟩) fun _ =>
          .op (.waitDma2 sem.sem (hW.slice (Rect.unit (s := S100032x256) off S32x256.size hoff) (fun _ => rfl)) m6 (View.wordExact_bits rfl) (Memref.isWhole_whole _).wordExact) fun _ => p) Q) := by
  unfold owed tw
  iintro ⟨Hmw, Hh, ⟨%f, H6⟩, Hsem, %W', %hW', HO⟩ HK
  sl_exec (disch := exact View.amount_pos _ _ (show 0 < S32x256.numel by decide))
  iapply HK
  isplitl [Hmw]; · iexact Hmw
  isplitl [Hh]; · iexact Hh
  isplitl [H6]
  · have e : View.write (Elt F) m6.view f (tw_fetch.sl.dma0 H off hoff) Finset.univ = fetched H (off 0) :=
      (View.write_whole_univ _ _ _).trans (fetch_eq H off hoff)
    rw [← e]; iexact H6
  isplitl [Hsem]; · iexact Hsem
  iexists (insert (SemLoc.dma sem.sem, (default : HIx 1)) W')
  isplitr
  · ipureintro; intro p hp
    rcases Finset.mem_insert.mp hp with rfl | hp
    · exact .inr rfl
    · exact hW' p hp
  · iexact HO

theorem chunkLanes_fetched (H : Vec F S100032x256 .f32) (n : Nat) (r : Fin 32) (j : Fin 16) : chunkLanes (fetched H n) r j = lanes H (n + r.val) j := rfl

/-- What the chunks of a segment go along with. -/
def chunkRes (q : PosShare TreeShare) (H : Vec F S100032x256 .f32) : sProp 𝕄 :=
  iprop(Transfers.MayWaits (thr d L) (none : HIx 1) O ∗ (hW.view.loc (thr d L) ↦{q} H) ∗ (∃ f6, m6.view.loc (thr d L) ↦{fullShare} f6)
    ∗ semVal (thr d L, SemLoc.dma cc0_scoped1.sem) 0 ∗ owed d L O W)

theorem tw_chunk {β : Type} (q : PosShare TreeShare) (H : Vec F S100032x256 .f32) (off : Fin 2 → Nat) (hoff : ∀ a, off a + S32x256.size a ≤ S100032x256.size a)
    (r0 m : BitVec 32) (a : Fin 16 → V F) (k : (Fin 16 → V F) → PR F L β) (Q : β → sProp 𝕄) :
    chunkRes d L O W q H
      ⊢ iprop((chunkRes d L O W q H -∗ tw d L (k (chunkSum H (off 0) r0 m a)) Q)
        -∗ tw d L (chunkProg L hW m6 (Memref.isWhole_whole _) cc0_scoped1 off hoff r0 m a >>= k) Q) := by
  unfold chunkRes
  iintro HR HK
  iapply (tw_fetch d L O W q H off hoff cc0_scoped1 (steps (rowProg L m6 r0 m) (List.finRange 32) a >>= k) Q) $$ HR
  iintro ⟨Hmw, Hh, H6, Hsem, HO⟩
  iapply (tw_rows d L (fetched H (off 0)) r0 m a k Q) $$ H6
  iintro H6
  iapply HK
  isplitl [Hmw]; · iexact Hmw
  isplitl [Hh]; · iexact Hh
  isplitl [H6]; · iexists _; iexact H6
  isplitl [Hsem]; · iexact Hsem
  iexact HO

/-! ## The rows' means, stored -/

/-- Rows with row `g` replaced. -/
def setRow (g : Nat) (v : Fin 16 → V F) (f : Vec F S16x256 .f32) : Vec F S16x256 .f32 := fun x => if (x 0).val = g then entry v (x 1) else f x
/-- Rows with lanes `16 j` to `16 j + 15` of row `g` replaced. -/
def setLanes (g : Nat) (v : Fin 16 → V F) (j : Fin 16) (f : Vec F S16x256 .f32) : Vec F S16x256 .f32 := fun x =>
  if (x 0).val = g ∧ (x 1).val / 16 = j.val then entry v (x 1) else f x

theorem setLanes_foldl (g : Nat) (v : Fin 16 → V F) : ∀ (l : List (Fin 16)) (f : Vec F S16x256 .f32) (x : S16x256.Idx),
    l.foldl (fun f j => setLanes g v j f) f x = if (x 0).val = g ∧ ∃ j ∈ l, (x 1).val / 16 = j.val then entry v (x 1) else f x
  | [], f, x => by simp
  | i :: l, f, x => by
    rw [List.foldl_cons, setLanes_foldl g v l]
    unfold setLanes
    by_cases h0 : (x 0).val = g <;> by_cases h1 : (x 1).val / 16 = i.val <;> simp [h0, h1]

theorem setLanes_all (g : Nat) (v : Fin 16 → V F) (f : Vec F S16x256 .f32) : (List.finRange 16).foldl (fun f j => setLanes g v j f) f = setRow g v f := by
  funext x
  have hx : (x 1).val < 256 := (x 1).isLt
  rw [setLanes_foldl]
  unfold setRow
  have h : ∃ j ∈ List.finRange 16, (x 1).val / 16 = j.val := ⟨⟨(x 1).val / 16, by omega⟩, List.mem_finRange _, rfl⟩
  simp only [h, and_true]

theorem write_lanes (off : Fin 2 → Nat) (h : ∀ a, off a + S1x16.size a ≤ S16x256.size a) (g : Nat) (j : Fin 16) (h0 : off 0 = g) (h1 : off 1 = 16 * j.val)
    (v : Fin 16 → V F) (f : Vec F S16x256 .f32) :
    (m7.access (Rect.unit (s := S16x256) off S1x16.size h)).write (Elt F) f (shapeCast S1x16 (v j) shapeCasts_S16_S1x16) Finset.univ = setLanes g v j f := by
  funext x
  unfold setLanes
  have hx : (x 1).val < 256 := (x 1).isLt
  by_cases hc : (x 0).val = g ∧ (x 1).val / 16 = j.val
  · rw [if_pos hc]
    let y : S1x16.Idx := fun a => match a with
      | 0 => ⟨0, by decide⟩
      | 1 => ⟨(x 1).val % 16, Nat.mod_lt _ (by decide)⟩
    have hy : (m7.access (Rect.unit (s := S16x256) off S1x16.size h)).emb y = x := by
      funext a
      apply Fin.ext
      match a with
      | 0 => show off 0 + 1 * 0 = (x 0).val; omega
      | 1 => show off 1 + 1 * ((x 1).val % 16) = (x 1).val; omega
    have hw := View.write_emb_of_mem (Val := Elt F) (v := m7.access (Rect.unit (s := S16x256) off S1x16.size h)) f (shapeCast S1x16 (v j) shapeCasts_S16_S1x16) (Finset.mem_univ y)
    rw [hy] at hw
    refine hw.trans ?_
    show shapeCast S1x16 (v j) shapeCasts_S16_S1x16 y = entry v (x 1)
    rw [show shapeCast S1x16 (v j) shapeCasts_S16_S1x16 y = v j fun a => y a.succ from shapeCast_addUnit_apply _ _ _ _]
    unfold entry
    rw [show (⟨(x 1).val / 16, by omega⟩ : Fin 16) = j from Fin.ext hc.2]
    congr 1
    funext a
    fin_cases a
    rfl
  · rw [if_neg hc]
    refine View.write_of_not_mem (Val := Elt F) (v := m7.access (Rect.unit (s := S16x256) off S1x16.size h)) f _ Finset.univ fun hm => hc ?_
    obtain ⟨y, -, rfl⟩ := Finset.mem_map.mp hm
    have hy0 : (y 0).val < 1 := (y 0).isLt
    have hy1 : (y 1).val < 16 := (y 1).isLt
    constructor
    · show off 0 + 1 * (y 0).val = g; omega
    · show (off 1 + 1 * (y 1).val) / 16 = j.val; omega

theorem off_row (g : Fin k0_t3_loop.trips) : (Scalar.indexCast (Scalar.addi 0#32 (Scalar.muli (Scf.iv 0#32 1#32 g) 1#32))).toNat = g.val :=
  congrFun (k0_off7_eq g) 0

theorem tw_store {β : Type} (g : Fin k0_t3_loop.trips) (v : Fin 16 → V F) (j : Fin 16) (u : PUnit) (f : Vec F S16x256 .f32) (k : PUnit → PR F L β) (Q : β → sProp 𝕄) :
    (m7.view.loc (thr d L) ↦{fullShare} f : sProp 𝕄)
      ⊢ iprop(((m7.view.loc (thr d L) ↦{fullShare} setLanes g.val v j f) -∗ tw d L (k u) Q) -∗ tw d L (storeProg L m7 g v j u >>= k) Q) := by
  iintro H7 HK
  iapply (wp_load 𝒱₀ (thr d L) none Set.univ (m := m7) (S := Finset.univ) (Finset.subset_univ _)) $$ H7
  iintro H7
  iapply (wp_store 𝒱₀ (thr d L) none Set.univ (m := m7)
    (r := Rect.unit (s := S16x256) ![(Scalar.indexCast (Scalar.addi 0#32 (Scalar.muli (Scf.iv 0#32 1#32 g) 1#32))).toNat, 16 * j.val] S1x16.size (res_inb g j))
    (Mk := Finset.univ) (S := Finset.univ) (Finset.subset_univ _)) $$ H7
  rw [write_lanes _ (res_inb g j) g.val j (off_row g) rfl v f]
  iexact HK

theorem tw_stores {β : Type} (g : Fin k0_t3_loop.trips) (v : Fin 16 → V F) (f : Vec F S16x256 .f32) (k : PUnit → PR F L β) (Q : β → sProp 𝕄) :
    (m7.view.loc (thr d L) ↦{fullShare} f : sProp 𝕄)
      ⊢ iprop(((m7.view.loc (thr d L) ↦{fullShare} setRow g.val v f) -∗ tw d L (k ⟨⟩) Q) -∗ tw d L (steps (storeProg L m7 g v) (List.finRange 16) ⟨⟩ >>= k) Q) := by
  have h := tw_steps d L (storeProg L m7 g v) (fun _ u => u) (fun j f => setLanes g.val v j f)
    (fun f : Vec F S16x256 .f32 => (m7.view.loc (thr d L) ↦{fullShare} f : sProp 𝕄)) (fun j u f k Q => tw_store d L g v j u f k Q) (List.finRange 16) ⟨⟩ f k Q
  rw [setLanes_all] at h
  exact h

/-! ## A segment -/

/-- Position `n` of the task's array of bounds. -/
def ix8 (n : Nat) : S17.Idx := fun a => ⟨n % S17.size a, Nat.mod_lt _ (by fin_cases a; decide)⟩

theorem tw_smem {β : Type} (off : Fin 1 → Nat) (h : ∀ a, off a + S1.size a ≤ S17.size a) (n : Nat) (hn : off = ![n]) (f8 : Vec F S17 .i32)
    (k : BitVec 32 → PR F L β) (Q : β → sProp 𝕄) :
    (m8.view.loc (thr d L) ↦{fullShare} f8 : sProp 𝕄)
      ⊢ iprop(((m8.view.loc (thr d L) ↦{fullShare} f8) -∗ tw d L (k (f8 (ix8 n))) Q)
        -∗ tw d L (smemLoad m8 (Rect.unit (s := S17) off S1.size h) numel1_S1 rfl >>= k) Q) := by
  subst hn
  have h0 : n + 1 ≤ 17 := h 0
  have e : ∀ x : S1.Idx, (m8.access (Rect.unit (s := S17) ![n] S1.size h)).read (Elt F) f8 x = f8 (ix8 n) := by
    intro x
    show f8 _ = f8 _
    congr 1
    funext a
    apply Fin.ext
    fin_cases a
    have : (x 0).val < 1 := (x 0).isLt
    show n + 1 * (x 0).val = n % 17
    omega
  have hl := wp_smemLoadElt (Γ := []) (defs := defs₀ (F := F)) 𝒱₀ (thr d L) none Set.univ (m := m8) (r := Rect.unit (s := S17) ![n] S1.size h)
    (hw := View.loads_smem_one rfl numel1_S1) (x := Shape.Idx.first (numel1_S1.symm ▸ Nat.one_pos)) (k := k) (Q := Q) (S := Finset.univ) (q := fullShare) (f := f8) (Finset.subset_univ _)
  rw [e] at hl
  exact hl

/-- The bounds the searches leave. -/
def Bounds (B : Vec F S100032 .i32) (f8 : Vec F S17 .i32) (n : Nat) : Prop := ∀ j < n, f8 (ix8 j) = boundW (wordAt B) (targetW L j)

/-- The rows done before segment `n` of the task. -/
def Rows (H : Vec F S100032x256 .f32) (f8 : Vec F S17 .i32) (f7 : Vec F S16x256 .f32) (n : Nat) : Prop :=
  ∀ x : S16x256.Idx, (x 0).val < n → f7 x = entry (mean H (f8 (ix8 (x 0).val)) (f8 (ix8 ((x 0).val + 1)))) (x 1)

/-- One trip of a segment's chunks. -/
def tripProg (s e : BitVec 32) (hw : k0_chk2 s e) (c : Fin (k0_t4_loop s e).trips) (acc : Tup (V F)) : PR F L (Tup (V F)) :=
  chunkProg L hW m6 (Memref.isWhole_whole _) cc0_scoped1 (k0_off5 s e c) (k0_off5_inb s e hw c) (firstW s (Scf.iv 0#32 1#32 c)) (lastW s e (Scf.iv 0#32 1#32 c)) (untup acc) >>= fun a => .ret (tup a)

/-- A segment between its two bounds. -/
def segProg (g : Fin k0_t3_loop.trips) (s e : BitVec 32) : PR F L PUnit :=
  .op (.assume (k0_chk2 s e) (k0_chk2.dec s e)) fun hw =>
  Scf.Loop.for (k0_t4_loop s e) (k0_t4_ok s e hw.down) (tup fun _ => (zeroV : V F)) (tripProg L s e hw.down) >>= fun acc =>
  Scf.Loop.for (k0_t5_loop s e) (k0_t5_ok s e hw.down) acc (fun t acc =>
    chunkProg L hW m6 (Memref.isWhole_whole _) cc0_scoped2 (k0_off6 s e t) (k0_off6_inb s e hw.down t) (firstW s (Scf.iv (remW s e) 1#32 t)) (lastW s e (Scf.iv (remW s e) 1#32 t)) (untup acc) >>= fun a => .ret (tup a)) >>= fun acc =>
  steps (storeProg L m7 g fun j => divf (untup acc j) (denom s e)) (List.finRange 16) ⟨⟩

theorem tw_trip (q : PosShare TreeShare) (H : Vec F S100032x256 .f32) (s e : BitVec 32) (hs : s.toNat ≤ 100001) (he : e.toNat ≤ 100001)
    (c : Fin (k0_t4_loop s e).trips) (acc : Tup (V F)) :
    iprop(⌜acc = tup (sums H s e c)⌝ ∗ chunkRes d L O W q H)
      ⊢ tw d L (tripProg L s e (chk2_of_le hs he) c acc)
        fun acc => iprop(⌜acc = tup (sums H s e (c.val + 1))⌝ ∗ chunkRes d L O W q H) := by
  iintro ⟨%hacc, HR⟩
  subst hacc
  unfold tripProg
  rw [untup_tup]
  iapply (tw_chunk d L O W q H (k0_off5 s e c) (k0_off5_inb s e (chk2_of_le hs he) c) (firstW s (Scf.iv 0#32 1#32 c)) (lastW s e (Scf.iv 0#32 1#32 c)) (sums H s e c)) $$ HR
  iintro HR
  unfold tw
  sl_step
  isplitr
  · ipureintro; rw [sums_succ]; rfl
  · iexact HR

attribute [local irreducible] wp tripProg in
theorem tw_segment (q : PosShare TreeShare) (H : Vec F S100032x256 .f32) (g : Fin k0_t3_loop.trips) (s e : BitVec 32) (hs : s.toNat ≤ 100001) (he : e.toNat ≤ 100001)
    (f7 : Vec F S16x256 .f32) (Q : PUnit → sProp 𝕄) :
    iprop((m7.view.loc (thr d L) ↦{fullShare} f7) ∗ chunkRes d L O W q H)
      ⊢ iprop((iprop((m7.view.loc (thr d L) ↦{fullShare} setRow g.val (mean H s e) f7) ∗ chunkRes d L O W q H) -∗ Q ⟨⟩) -∗ tw d L (segProg L g s e) Q) := by
  iintro ⟨H7, HR⟩ HQ
  unfold segProg
  have hb : ∀ (c : Fin (k0_t4_loop s e).trips) (acc : Tup (V F)),
      iprop(⌜acc = tup (sums H s e c)⌝ ∗ chunkRes d L O W q H) ⊢ wp frame (wpE (defs₀ (F := F)) 𝒱₀ (thr d L) none) Set.univ (tripProg L s e (chk2_of_le hs he) c acc)
        (fun acc => iprop(⌜acc = tup (sums H s e (c.val + 1))⌝ ∗ chunkRes d L O W q H)) := by
    intro c acc
    have h := tw_trip d L O W q H s e hs he c acc
    with_reducible exact h
  iapply (wp_assume 𝒱₀ (thr d L) none Set.univ (chk2_of_le hs he))
  iapply (Scf.wp_for_bind frame (wpE (defs₀ (F := F)) 𝒱₀ (thr d L) none) Set.univ (k0_t4_loop s e).lb (k0_t4_loop s e).ub (k0_t4_loop s e).st (k0_t4_ok s e (chk2_of_le hs he)) (tup fun _ => (zeroV : V F)) (tripProg L s e (chk2_of_le hs he))
    (fun c acc => iprop(⌜acc = tup (sums H s e c)⌝ ∗ chunkRes d L O W q H)) hb (kk := _)) $$ [HR]
  · isplitr
    · ipureintro; rw [sums_zero]
    · iexact HR
  iintro %acc ⟨%hacc, HR⟩
  subst hacc
  iapply (Scf.wp_for_bind frame (wpE (defs₀ (F := F)) 𝒱₀ (thr d L) none) Set.univ (k0_t5_loop s e).lb (k0_t5_loop s e).ub (k0_t5_loop s e).st (k0_t5_ok s e (chk2_of_le hs he)) (tup (sums H s e (k0_t4_loop s e).trips)) _
    (fun _ acc => iprop(⌜acc = tup (sums H s e (k0_t4_loop s e).trips)⌝ ∗ chunkRes d L O W q H)) (fun c => (Scf.rem_no_trip _ _ c).elim) (kk := _)) $$ [HR]
  · isplitr
    · ipureintro; rfl
    · iexact HR
  iintro %acc ⟨%hacc, HR⟩
  subst hacc
  rw [untup_tup]
  iapply (tw_stores d L g (mean H s e) f7 .ret Q) $$ H7
  iintro H7
  unfold tw
  sl_step
  iapply HQ
  isplitl [H7]; · iexact H7
  iexact HR

theorem tw_group (q : PosShare TreeShare) (H : Vec F S100032x256 .f32) (B : Vec F S100032 .i32) (f8 : Vec F S17 .i32) (hf8 : Bounds L B f8 17)
    (g : Fin k0_t3_loop.trips) (u : PUnit) :
    iprop((m8.view.loc (thr d L) ↦{fullShare} f8) ∗ (∃ f7, ⌜Rows H f8 f7 g.val⌝ ∗ m7.view.loc (thr d L) ↦{fullShare} f7) ∗ chunkRes d L O W q H)
      ⊢ tw d L (groupProg L hW m6 (Memref.isWhole_whole _) m7 m8 cc0_scoped1 cc0_scoped2 g u) fun _ =>
        iprop((m8.view.loc (thr d L) ↦{fullShare} f8) ∗ (∃ f7, ⌜Rows H f8 f7 (g.val + 1)⌝ ∗ m7.view.loc (thr d L) ↦{fullShare} f7) ∗ chunkRes d L O W q H) := by
  have hg : g.val < 16 := lt_of_lt_of_eq g.isLt (show k0_t3_loop.trips = 16 from by decide)
  have hs : (f8 (ix8 g.val)).toNat ≤ 100001 := by rw [hf8 _ (by omega)]; exact boundW_le _ _
  have he : (f8 (ix8 (g.val + 1))).toNat ≤ 100001 := by rw [hf8 _ (by omega)]; exact boundW_le _ _
  iintro ⟨H8, ⟨%f7, %hf7, H7⟩, HR⟩
  unfold groupProg
  iapply (tw_smem d L (k0_off3 g) (k0_off3_inb g) g.val (k0_off3_eq g) f8) $$ H8
  iintro H8
  iapply (tw_smem d L (k0_off4 g) (k0_off4_inb g) (g.val + 1) (k0_off4_eq g) f8) $$ H8
  iintro H8
  iapply (tw_segment d L O W q H g (f8 (ix8 g.val)) (f8 (ix8 (g.val + 1))) hs he f7) $$ [H7 HR]
  · isplitl [H7]; · iexact H7
    iexact HR
  iintro ⟨H7, HR⟩
  isplitl [H8]; · iexact H8
  isplitl [H7]
  · iexists _
    isplitr
    rotate_left
    · iexact H7
    · ipureintro
      intro x hx
      unfold setRow
      by_cases h : (x 0).val = g.val
      · rw [if_pos h, h]
      · rw [if_neg h]; exact hf7 x (by omega)
  · iexact HR

theorem tw_step (q : PosShare TreeShare) (B : Vec F S100032 .i32) (t : BitVec 32) (c : Nat) :
    (m5.view.loc (thr d L) ↦{q} B : sProp 𝕄)
      ⊢ tw d L (searchProg L m5 t (searchW (wordAt B) t c)) fun s => iprop(⌜s = searchW (wordAt B) t (c + 1)⌝ ∗ (m5.view.loc (thr d L) ↦{q} B)) := by
  have hsm := small_searchW (wordAt B) t c
  have hc := chk1_of_small hsm
  have e : firstWord (F := F) (m5.view.readAt (Elt F) (Rect.unit (s := S100032) (k0_off1 (searchW (wordAt B) t c).1 (searchW (wordAt B) t c).2) S16.size
      (k0_off1_inb _ _ hc)).toLoadRect B) = wordAt B (midW (searchW (wordAt B) t c).1 (searchW (wordAt B) t c).2).toNat := by
    have hm := toNat_midW hsm
    obtain ⟨h1, h2⟩ := hsm
    unfold firstWord
    rw [shapeCast_self]
    show B _ = B _
    congr 1
    funext a
    apply Fin.ext
    fin_cases a
    show (midW _ _).toNat + 1 * (0 + 0) = (midW _ _).toNat % 100032
    omega
  iintro H5
  unfold searchProg
  iapply (wp_assume 𝒱₀ (thr d L) none Set.univ hc)
  iapply (wp_load 𝒱₀ (thr d L) none Set.univ (m := m5) (S := Finset.univ) (Finset.subset_univ _)) $$ H5
  iintro H5
  sl_step
  isplitr
  · ipureintro
    rw [e]; rfl
  · iexact H5

/-- The bounds with the `k`-th replaced. -/
def setBound (k : Nat) (v : BitVec 32) (f : Vec F S17 .i32) : Vec F S17 .i32 := fun x => if (x 0).val = k then v else f x

theorem write_bound (off : Fin 1 → Nat) (h : ∀ a, off a + S1.size a ≤ S17.size a) (k : Nat) (hk : off = ![k]) (v : BitVec 32) (f : Vec F S17 .i32) :
    (m8.access (Rect.unit (s := S17) off S1.size h)).write (Elt F) f (fun _ => v) Finset.univ = setBound (F := F) k v f := by
  subst hk
  funext x
  unfold setBound
  by_cases hc : (x 0).val = k
  · rw [if_pos hc]
    let y : S1.Idx := fun a => ⟨0, by fin_cases a; decide⟩
    have hy : (m8.access (Rect.unit (s := S17) ![k] S1.size h)).emb y = x := by
      funext a
      apply Fin.ext
      fin_cases a
      show k + 1 * 0 = (x 0).val
      omega
    have hw := View.write_emb_of_mem (Val := Elt F) (v := m8.access (Rect.unit (s := S17) ![k] S1.size h)) f (fun _ => v) (Finset.mem_univ y)
    rw [hy] at hw
    exact hw
  · rw [if_neg hc]
    refine View.write_of_not_mem (Val := Elt F) (v := m8.access (Rect.unit (s := S17) ![k] S1.size h)) f _ Finset.univ fun hm => hc ?_
    obtain ⟨y, -, rfl⟩ := Finset.mem_map.mp hm
    have hy0 : (y 0).val < 1 := (y 0).isLt
    show k + 1 * (y 0).val = k
    omega

/-- The bounds found before the `n`-th search, held. -/
def boundsHeld (B : Vec F S100032 .i32) (n : Nat) : sProp 𝕄 :=
  iprop((m5.view.loc (thr d L) ↦{fullShare} B) ∗ ∃ f8, ⌜Bounds L B f8 n⌝ ∗ m8.view.loc (thr d L) ↦{fullShare} f8)

theorem tw_search (B : Vec F S100032 .i32) (t : BitVec 32) (c : Fin k0_t2_loop.trips) (s : BitVec 32 × BitVec 32) :
    iprop(⌜s = searchW (wordAt B) t c⌝ ∗ (m5.view.loc (thr d L) ↦{fullShare} B))
      ⊢ tw d L (searchProg L m5 t s) fun s => iprop(⌜s = searchW (wordAt B) t (c.val + 1)⌝ ∗ (m5.view.loc (thr d L) ↦{fullShare} B)) := by
  iintro ⟨%hs, H5⟩
  subst hs
  iapply (tw_step d L fullShare B t c) $$ H5

theorem tw_bound (B : Vec F S100032 .i32) (k : Fin k0_t1_loop.trips) (u : PUnit) :
    boundsHeld d L B k.val ⊢ tw d L (boundProg L m5 m8 k u) fun _ => boundsHeld d L B (k.val + 1) := by
  have hk : k.val < 17 := lt_of_lt_of_eq k.isLt (show k0_t1_loop.trips = 17 from by decide)
  unfold boundsHeld
  iintro ⟨H5, %f8, %hf8, H8⟩
  unfold boundProg
  iapply (Scf.wp_for_bind frame (wpE (defs₀ (F := F)) 𝒱₀ (thr d L) none) Set.univ _ _ _ k0_t2_ok (0#32, 100000#32) _
    (fun c s => iprop(⌜s = searchW (wordAt B) (targetW L k) c⌝ ∗ (m5.view.loc (thr d L) ↦{fullShare} B))) (tw_search d L B (targetW L k)) (kk := _)) $$ [H5]
  · isplitr
    · ipureintro; rfl
    · iexact H5
  iintro %s ⟨%hs, H5⟩
  subst hs
  iapply (tw_smem d L (k0_off2 k) (k0_off2_inb k) k.val (k0_off2_eq k) f8) $$ H8
  iintro H8
  iapply (wp_store 𝒱₀ (thr d L) none Set.univ (m := m8) (r := Rect.unit (s := S17) (k0_off2 k) S1.size (k0_off2_inb k))
    (Mk := Finset.univ) (S := Finset.univ) (Finset.subset_univ _)) $$ H8
  rw [write_bound (k0_off2 k) (k0_off2_inb k) k.val (k0_off2_eq k)]
  iintro H8
  sl_step
  isplitl [H5]; · iexact H5
  iexists _
  isplitr
  rotate_left
  · iexact H8
  · ipureintro
    intro j hj
    show (if j % 17 = k.val then _ else _) = _
    rw [Nat.mod_eq_of_lt (by omega)]
    by_cases h : j = k.val
    · subst h; rw [if_pos rfl]; rfl
    · rw [if_neg h]; exact hf8 j (by omega)

/-! ## The task -/

/-- The task's block of the result. -/
abbrev oBlk : Memref sig .scVector .hbm S16x256 .f32 := oW.slice (Rect.unit (s := S512x256) (k0_off23 L) S16x256.size (k0_off23_inb L)) (fun _ => rfl)

theorem in_eq (B : Vec F S100032 .i32) : ReadAs.same.apply (bW.view.read (Elt F) B) = B := View.read_whole _ _

theorem whole_emb (y : S16x256.Idx) : (Rect.whole S16x256).emb y = y := by
  funext a
  apply Fin.ext
  rw [Rect.emb_apply]
  show 0 + 1 * (y a).val = (y a).val
  omega

theorem out_eq (f7 : Vec F S16x256 .f32) (f : Vec F S512x256 .f32) (y : S16x256.Idx) :
    ((oBlk L).view.writes (Elt F) f [⟨Rect.whole S16x256, ReadAs.same.apply (m7.view.read (Elt F) f7)⟩] : Vec F S512x256 .f32) ((oBlk L).view.emb y) = f7 y := by
  have h := View.write_emb_of_mem (Val := Elt F) (v := (oBlk L).view.slice (Rect.whole S16x256)) f (ReadAs.same.apply (m7.view.read (Elt F) f7)) (Finset.mem_univ y)
  rw [show ((oBlk L).view.slice (Rect.whole S16x256)).emb y = (oBlk L).view.emb y from congrArg (oBlk L).view.emb (whole_emb y)] at h
  exact h

theorem tw_in {α : Type} (q : PosShare TreeShare) (B : Vec F S100032 .i32) (p : PR F L α) (Q : α → sProp 𝕄) :
    iprop(Transfers.MayWaits (thr d L) (none : HIx 1) O ∗ (bW.view.loc (thr d L) ↦{q} B) ∗ (∃ f5, m5.view.loc (thr d L) ↦{fullShare} f5)
        ∗ semVal (thr d L, SemLoc.dma cc0_scoped0.sem) 0 ∗ owed d L O W)
      ⊢ iprop((iprop(Transfers.MayWaits (thr d L) (none : HIx 1) O ∗ (bW.view.loc (thr d L) ↦{q} B) ∗ (m5.view.loc (thr d L) ↦{fullShare} B)
          ∗ semVal (thr d L, SemLoc.dma cc0_scoped0.sem) 0 ∗ owed d L O W) -∗ tw d L p Q)
        -∗ tw d L (.op (.enqueueDma bW (.here m5) (.dma cc0_scoped0.sem) (Memref.isWhole_whole _).wordExact (Memref.isWhole_whole _).wordExact ⟨Or.inl rfl, trivial⟩) fun _ =>
          .op (.waitDma2 cc0_scoped0.sem bW m5 (Memref.isWhole_whole _).wordExact (Memref.isWhole_whole _).wordExact) fun _ => p) Q) := by
  unfold owed tw
  iintro ⟨Hmw, Hb, ⟨%f, H5⟩, Hsem, %W', %hW', HO⟩ HK
  sl_exec (disch := exact View.amount_pos _ _ (show 0 < S100032.numel by decide))
  iapply HK
  isplitl [Hmw]; · iexact Hmw
  isplitl [Hb]; · iexact Hb
  isplitl [H5]
  · have e : View.write (Elt F) m5.view f (tw_in.sl.dma0 B) Finset.univ = B := (View.write_whole_univ _ _ _).trans (in_eq B)
    iapply (Entails.of_eq (congrArg (fun f => (m5.view.loc (thr d L) ↦{fullShare} f : sProp 𝕄)) e)) $$ H5
  isplitl [Hsem]; · iexact Hsem
  iexists (insert (SemLoc.dma cc0_scoped0.sem, (default : HIx 1)) W')
  isplitr
  · ipureintro; intro p hp
    rcases Finset.mem_insert.mp hp with rfl | hp
    · exact .inr rfl
    · exact hW' p hp
  · iexact HO

theorem tw_out {α : Type} (f7 : Vec F S16x256 .f32) (p : PR F L α) (Q : α → sProp 𝕄) :
    iprop(Transfers.MayWaits (thr d L) (none : HIx 1) O ∗ (m7.view.loc (thr d L) ↦{fullShare} f7) ∗ (∃ f4, (oBlk L).view.loc (thr d L) ↦[(oBlk L).view.set]{fullShare} f4)
        ∗ semVal (thr d L, SemLoc.dma cc0_scoped3.sem) 0 ∗ owed d L O W)
      ⊢ iprop((iprop(Transfers.MayWaits (thr d L) (none : HIx 1) O ∗ (m7.view.loc (thr d L) ↦{fullShare} f7)
          ∗ (∃ f4, ⌜∀ y : S16x256.Idx, (f4 : Vec F S512x256 .f32) ((oBlk L).view.emb y) = f7 y⌝ ∗ (oBlk L).view.loc (thr d L) ↦[(oBlk L).view.set]{fullShare} f4)
          ∗ semVal (thr d L, SemLoc.dma cc0_scoped3.sem) 0 ∗ owed d L O W) -∗ tw d L p Q)
        -∗ tw d L (.op (.enqueueDma m7 (.here (oBlk L)) (.dma cc0_scoped3.sem) (Memref.isWhole_whole _).wordExact (View.wordExact_bits rfl) ⟨Or.inl rfl, trivial⟩) fun _ =>
          .op (.waitDma2 cc0_scoped3.sem m7 (oBlk L) (Memref.isWhole_whole _).wordExact (View.wordExact_bits rfl)) fun _ => p) Q) := by
  unfold owed tw
  iintro ⟨Hmw, H7, ⟨%f, Ho⟩, Hsem, %W', %hW', HO⟩ HK
  sl_exec (disch := exact View.amount_pos _ _ (show 0 < S16x256.numel by decide))
  iapply HK
  isplitl [Hmw]; · iexact Hmw
  isplitl [H7]; · iexact H7
  isplitl [Ho]
  · iexists _
    isplitr
    rotate_left
    · iexact Ho
    · ipureintro
      intro y
      exact out_eq L f7 f y
  isplitl [Hsem]; · iexact Hsem
  iexists (insert (SemLoc.dma cc0_scoped3.sem, (default : HIx 1)) W')
  isplitr
  · ipureintro; intro p hp
    rcases Finset.mem_insert.mp hp with rfl | hp
    · exact .inr rfl
    · exact hW' p hp
  · iexact HO

theorem rows_result (H : Vec F S100032x256 .f32) (B : Vec F S100032 .i32) (f8 : Vec F S17 .i32) (f7 : Vec F S16x256 .f32)
    (h8 : Bounds L B f8 17) (h7 : Rows H f8 f7 16) (y : S16x256.Idx) : result H B ((oBlk L).view.emb y) = f7 y := by
  have hy : (y 0).val < 16 := (y 0).isLt
  have e0 : (((oBlk L).view.emb y : S512x256.Idx) 0).val = 256 * (L 0).val + 16 * (L 1).val + (y 0).val := by
    show k0_off23 L 0 + 1 * (y 0).val = _
    rw [congrFun (k0_off23_eq L) 0]
    show 256 * (L 0).val + 16 * (L 1).val + 1 * (y 0).val = _
    omega
  have e1 : ((oBlk L).view.emb y : S512x256.Idx) 1 = y 1 := by
    apply Fin.ext
    show k0_off23 L 1 + 1 * (y 1).val = _
    rw [congrFun (k0_off23_eq L) 1]
    show 0 + 1 * (y 1).val = _
    omega
  rw [h7 y hy, h8 _ (by omega), h8 _ (by omega), targetW_eq L _ (by omega), targetW_eq L _ (by omega)]
  unfold result
  rw [e0, e1, Nat.add_assoc _ (y 0).val 1]

/-- What the searches and the segments of a task go along with. -/
def rowsHeld (q : PosShare TreeShare) (H : Vec F S100032x256 .f32) (f8 : Vec F S17 .i32) (n : Nat) : sProp 𝕄 :=
  iprop((m8.view.loc (thr d L) ↦{fullShare} f8) ∗ (∃ f7, ⌜Rows H f8 f7 n⌝ ∗ m7.view.loc (thr d L) ↦{fullShare} f7) ∗ chunkRes d L O W q H)

/-- What a task needs beside its operands, and gives back. -/
def scratchHeld : sProp 𝕄 :=
  iprop((∃ f5, m5.view.loc (thr d L) ↦{fullShare} f5) ∗ (∃ f6, m6.view.loc (thr d L) ↦{fullShare} f6) ∗ (∃ f7, m7.view.loc (thr d L) ↦{fullShare} f7)
    ∗ (∃ f8, m8.view.loc (thr d L) ↦{fullShare} f8)
    ∗ semVal (thr d L, SemLoc.dma cc0_scoped0.sem) 0 ∗ semVal (thr d L, SemLoc.dma cc0_scoped1.sem) 0 ∗ semVal (thr d L, SemLoc.dma cc0_scoped3.sem) 0
    ∗ owed d L O W)

attribute [local irreducible] wp in
theorem tw_kern (q q' : PosShare TreeShare) (H : Vec F S100032x256 .f32) (B : Vec F S100032 .i32) :
    iprop(Transfers.MayWaits (thr d L) (none : HIx 1) O ∗ ((hW.view.loc (thr d L) ↦{q} H) ∗ (bW.view.loc (thr d L) ↦{q'} B)
        ∗ (∃ f4, (oBlk L).view.loc (thr d L) ↦[(oBlk L).view.set]{fullShare} f4)) ∗ scratchHeld d L O W)
      ⊢ tw d L (kern L hW (Memref.isWhole_whole _) bW (Memref.isWhole_whole _) oW (Memref.isWhole_whole _) m5 (Memref.isWhole_whole _) m6 (Memref.isWhole_whole _)
          m7 (Memref.isWhole_whole _) m8 (Memref.isWhole_whole _) cc0_scoped0 cc0_scoped1 cc0_scoped2 cc0_scoped3) fun _ =>
        iprop(((hW.view.loc (thr d L) ↦{q} H) ∗ (bW.view.loc (thr d L) ↦{q'} B)
          ∗ ((oBlk L).view.loc (thr d L) ↦[(oBlk L).view.set]{fullShare} result H B)) ∗ scratchHeld d L O W) := by
  unfold scratchHeld kern
  iintro ⟨Hmw, ⟨Hh, Hb, Ho⟩, H5, H6, ⟨%f7, H7⟩, ⟨%f8, H8⟩, Hs0, Hs1, Hs3, HO⟩
  iapply (tw_in d L O W q' B) $$ [Hmw Hb H5 Hs0 HO]
  · isplitl [Hmw]; · iexact Hmw
    isplitl [Hb]; · iexact Hb
    isplitl [H5]; · iexact H5
    isplitl [Hs0]; · iexact Hs0
    iexact HO
  iintro ⟨Hmw, Hb, H5, Hs0, HO⟩
  iapply (Scf.wp_for_bind frame (wpE (defs₀ (F := F)) 𝒱₀ (thr d L) none) Set.univ k0_t1_loop.lb k0_t1_loop.ub k0_t1_loop.st k0_t1_ok ⟨⟩ (boundProg L m5 m8)
    (fun k _ => boundsHeld d L B k) (tw_bound d L B) (kk := _)) $$ [H5 H8]
  · unfold boundsHeld
    isplitl [H5]; · iexact H5
    iexists f8
    isplitr
    · ipureintro; intro j hj; exact absurd hj (Nat.not_lt_zero _)
    · iexact H8
  iintro %_ HB
  unfold boundsHeld
  icases HB with ⟨H5, %f8', %hf8, H8⟩
  have h8 : Bounds L B f8' 17 := hf8
  iapply (Scf.wp_for_bind frame (wpE (defs₀ (F := F)) 𝒱₀ (thr d L) none) Set.univ k0_t3_loop.lb k0_t3_loop.ub k0_t3_loop.st k0_t3_ok ⟨⟩
    (groupProg L hW m6 (Memref.isWhole_whole _) m7 m8 cc0_scoped1 cc0_scoped2)
    (fun g _ => rowsHeld d L O W q H f8' g) (tw_group d L O W q H B f8' h8) (kk := _)) $$ [H7 H8 H6 Hmw Hh Hs1 HO]
  · unfold rowsHeld chunkRes
    isplitl [H8]; · iexact H8
    isplitl [H7]
    · iexists f7
      isplitr
      · ipureintro; intro x hx; exact absurd hx (Nat.not_lt_zero _)
      · iexact H7
    isplitl [Hmw]; · iexact Hmw
    isplitl [Hh]; · iexact Hh
    isplitl [H6]; · iexact H6
    isplitl [Hs1]; · iexact Hs1
    iexact HO
  iintro %_ HR
  unfold rowsHeld chunkRes
  icases HR with ⟨H8, ⟨%f7', %hf7, H7⟩, Hmw, Hh, H6, Hs1, HO⟩
  have h7 : Rows H f8' f7' 16 := hf7
  iapply (tw_out d L O W f7') $$ [Hmw H7 Ho Hs3 HO]
  · isplitl [Hmw]; · iexact Hmw
    isplitl [H7]; · iexact H7
    isplitl [Ho]; · iexact Ho
    isplitl [Hs3]; · iexact Hs3
    iexact HO
  iintro ⟨Hmw, H7, ⟨%f4, %hf4, Ho⟩, Hs3, HO⟩
  have e : ((oBlk L).view.loc (thr d L) ↦[(oBlk L).view.set]{fullShare} f4 : sProp 𝕄) = ((oBlk L).view.loc (thr d L) ↦[(oBlk L).view.set]{fullShare} result H B) := by
    refine pointsTo_congr fun i hi => ?_
    obtain ⟨y, -, rfl⟩ := Finset.mem_map.mp hi
    exact (hf4 y).trans (rows_result L H B f8' f7' h8 h7 y).symm
  unfold tw
  sl_step
  isplitl [Hh Hb Ho]
  · isplitl [Hh]; · iexact Hh
    isplitl [Hb]; · iexact Hb
    iapply (Entails.of_eq e) $$ Ho
  isplitl [H5]; · iexists _; iexact H5
  isplitl [H6]; · iexact H6
  isplitl [H7]; · iexists _; iexact H7
  isplitl [H8]; · iexists _; iexact H8
  isplitl [Hs0]; · iexact Hs0
  isplitl [Hs1]; · iexact Hs1
  isplitl [Hs3]; · iexact Hs3
  iexact HO

end Cert.KernelIdeal.Seg

end
-- ==== Proof.KernelIdealRun.lean ====
/-
  The launch: the arrays dealt to the vector subcores and gathered back, @main around the call, the program's run.
-/
module

public import proofs.«01_k».proof.Proof.KernelIdealTask

@[expose] public section

noncomputable section

namespace Cert.KernelIdeal.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays and their shares -/

variable (m : (ℓ : Loc nD τ sig) → Buf (Elt F) ℓ) (ρ : Dev nD → PrngReg)

abbrev aLoc (d : Dev nD) : Loc nD τ sig := (SparseCore.T d).loc main_arg0
abbrev nLoc (d : Dev nD) : Loc nD τ sig := (SparseCore.T d).loc main_arg1
abbrev hLoc (d : Dev nD) : Loc nD τ sig := (SparseCore.T d).loc main_v1
abbrev bLoc (d : Dev nD) : Loc nD τ sig := (SparseCore.T d).loc main_v3
abbrev oLoc (d : Dev nD) : Loc nD τ sig := (SparseCore.T d).loc main_v4

/-- The features followed by 32 rows of zeros. -/
def padH (x : Vec F S100000x256 .f32) : Vec F S100032x256 .f32 :=
  concatenate S100032x256 0 [⟨S100000x256, x⟩, ⟨S32x256, broadcastInDim S32x256 ![] bcast_S_S32x256 (constant S_ .f32 0x00000000#32)⟩] concatenates_S100000x256_S32x256_S100032x256_d0
/-- The segment numbers followed by 32 times 512. -/
def padB (x : Vec F S100000 .i32) : Vec F S100032 .i32 :=
  concatenate S100032 0 [⟨S100000, x⟩, ⟨S32, broadcastInDim S32 ![] bcast_S_S32 (constantI S_ 32 512#32)⟩] concatenates_S100000_S32_S100032_d0

/-- What the call finds in its two operands on device `d`. -/
def HH (d : Dev nD) : Vec F S100032x256 .f32 := padH (m (aLoc d))
def BB (d : Dev nD) : Vec F S100032 .i32 := padB (m (nLoc d))

/-- The share of an operand that goes to SparseCore `c`. -/
def half (c : Nat) : PosShare TreeShare := if c = 0 then fullShare.left else fullShare.right

/-- The rows of SparseCore `c`, of subcore `i` of it. -/
def coreRows (c : Nat) : Finset S512x256.Idx := Finset.univ.filter fun x => (x 0).val / 256 = c
def tileRows (c i : Nat) : Finset S512x256.Idx := Finset.univ.filter fun x => (x 0).val / 16 = 16 * c + i

abbrev hPts (d : Dev nD) (q : PosShare TreeShare) : sProp 𝕄 := hLoc d ↦{q} (HH m d : Buf (Elt F) (hLoc d))
abbrev bPts (d : Dev nD) (q : PosShare TreeShare) : sProp 𝕄 := bLoc d ↦{q} (BB m d : Buf (Elt F) (bLoc d))
abbrev oPts (d : Dev nD) (I : Finset S512x256.Idx) : sProp 𝕄 := oLoc d ↦[I]{fullShare} (result (HH m d) (BB m d) : Buf (Elt F) (oLoc d))
abbrev oAny (d : Dev nD) (I : Finset S512x256.Idx) : sProp 𝕄 := iprop(∃ f : Buf (Elt F) (oLoc d), oLoc d ↦[I]{fullShare} f)

def stP (d : Dev nD) (c : Nat) : sProp 𝕄 := iprop(hPts m d (half c) ∗ bPts m d (half c) ∗ oAny d (coreRows c))
def dnP (d : Dev nD) (c : Nat) : sProp 𝕄 := iprop(hPts m d (half c) ∗ bPts m d (half c) ∗ oPts m d (coreRows c))
def goP (d : Dev nD) (c i : Nat) : sProp 𝕄 :=
  iprop(hPts m d (Transfers.shareTokN (half c) i) ∗ bPts m d (Transfers.shareTokN (half c) i) ∗ oAny d (tileRows c i))
def tdP (d : Dev nD) (c i : Nat) : sProp 𝕄 :=
  iprop(hPts m d (Transfers.shareTokN (half c) i) ∗ bPts m d (Transfers.shareTokN (half c) i) ∗ oPts m d (tileRows c i))

instance stP_storable (d : Dev nD) (c : Nat) : BI.Storable (upEmb : UEmb _ 𝕄) (stP m d c) := by unfold stP; infer_instance
instance dnP_storable (d : Dev nD) (c : Nat) : BI.Storable (upEmb : UEmb _ 𝕄) (dnP m d c) := by unfold dnP; infer_instance
instance goP_storable (d : Dev nD) (c i : Nat) : BI.Storable (upEmb : UEmb _ 𝕄) (goP m d c i) := by unfold goP; infer_instance
instance tdP_storable (d : Dev nD) (c i : Nat) : BI.Storable (upEmb : UEmb _ 𝕄) (tdP m d c i) := by unfold tdP; infer_instance

/-- What the call hands each SparseCore and each subcore, and takes back. -/
def P : (K (F := F)).Pay (nD := nD) (Val := Elt F) (Name := ℕ) (U := UU) where
  st := fun _ d c => stP m d c.val
  dn := fun _ d c => dnP m d c.val
  go := fun _ d c i => goP m d c.val i.val
  td := fun _ d c i => tdP m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The task -/

section Tile

variable (d : Dev nD) (L : grid0.Coords)

theorem set_oBlk : (oBlk L).view.set = tileRows (L 0).val (L 1).val := by
  show ((View.whole (main_v4_scv : Ref sig .scVector)).slice (Rect.unit (s := S512x256) (k0_off23 L) S16x256.size (k0_off23_inb L))).set = _
  rw [View.set_slice]
  refine (Finset.map_refl (s := (Rect.unit (s := S512x256) (k0_off23 L) S16x256.size (k0_off23_inb L)).set)).trans ?_
  ext x
  rw [Rect.mem_set_unit]
  rw [tileRows, Finset.mem_filter]
  constructor
  · intro h
    refine ⟨Finset.mem_univ _, ?_⟩
    have h0 := h 0
    rw [k0_off23_eq] at h0
    simp at h0
    omega
  · rintro ⟨-, h⟩ a
    rw [k0_off23_eq]
    fin_cases a
    · simp
      omega
    · simp
      exact (x 1).isLt

abbrev c0cell : GSem nD τ sig := (thr d L, SemLoc.dma cc0_scoped0.sem)
abbrev c1cell : GSem nD τ sig := (thr d L, SemLoc.dma cc0_scoped1.sem)
abbrev c3cell : GSem nD τ sig := (thr d L, SemLoc.dma cc0_scoped3.sem)

theorem ownSems0_V :
    (ownSems0 (thr d L) : sProp 𝕄)
      = iprop(semVal (c0cell d L) 0 ∗ semVal (c1cell d L) 0 ∗ semVal (c3cell d L) 0
          ∗ bigSep ((((ownCells (thr d L)).erase (c0cell d L)).erase (c1cell d L)).erase (c3cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c3cell]; decide, Finset.mem_erase.mpr ⟨by simp [c0cell, c3cell]; decide,
      (mem_ownCells (g := c3cell d L)).mpr ⟨rfl, by show (SemLoc.dma cc0_scoped3.sem : SemLoc sig).isScoped .scVector = true; decide⟩⟩⟩)]

abbrev sRef (b : Ref sig .scVector) : DevRef τ sig := (Proc.scVector (cV L) (jV L)).devRef b

theorem sRef_ne {a b : Ref sig .scVector} (h : a ≠ b) : sRef L a ≠ sRef L b := fun e => h (Proc.devRef_injective _ e)

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (sRef L cc0_scratch0)).erase (sRef L cc0_scratch1)).erase (sRef L cc0_scratch2)).erase (sRef L cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := sRef L cc0_scratch0) rfl)).trans ?_
  rw [SparseCore.bigSep_erase' (Finset.mem_erase.mpr ⟨sRef_ne L (by decide),
      SparseCore.Cfg.mem_ownRefs_of_owner (p := Proc.scVector (cV L) (jV L)) (b := sRef L cc0_scratch1) rfl⟩),
    SparseCore.bigSep_erase' (Finset.mem_erase.mpr ⟨sRef_ne L (by decide), Finset.mem_erase.mpr ⟨sRef_ne L (by decide),
      SparseCore.Cfg.mem_ownRefs_of_owner (p := Proc.scVector (cV L) (jV L)) (b := sRef L cc0_scratch2) rfl⟩⟩),
    SparseCore.bigSep_erase' (Finset.mem_erase.mpr ⟨sRef_ne L (by decide), Finset.mem_erase.mpr ⟨sRef_ne L (by decide), Finset.mem_erase.mpr ⟨sRef_ne L (by decide),
      SparseCore.Cfg.mem_ownRefs_of_owner (p := Proc.scVector (cV L) (jV L)) (b := sRef L cc0_scratch3) rfl⟩⟩⟩)]

theorem pts_h (q : PosShare TreeShare) : (hW.view.loc (thr d L) ↦{q} (HH m d : Vec F S100032x256 .f32) : sProp 𝕄) = hPts m d q := rfl
theorem pts_b (q : PosShare TreeShare) : (bW.view.loc (thr d L) ↦{q} (BB m d : Vec F S100032 .i32) : sProp 𝕄) = bPts m d q := rfl
theorem pts_o (f : Buf (Elt F) (oLoc d)) :
    ((oBlk L).view.loc (thr d L) ↦[(oBlk L).view.set]{fullShare} f : sProp 𝕄) = (oLoc d ↦[tileRows (L 0).val (L 1).val]{fullShare} f) := by
  rw [set_oBlk]

attribute [local irreducible] wp in
/-- A vector subcore's task, from its share of the operands and its block of the result. -/
theorem tile_body (O : CellTallies nD τ sig (HIx 1)) (W : Waits sig (HIx 1)) (hO : ∀ g, O g none = 0) :
    iprop(levAts (K (F := F)).L (K (F := F)).lev ∗ emp ∗ goP m d (L 0).val (L 1).val
        ∗ scopedBufs (thr d L) ∗ scopedSems0 (thr d L) ∗ owes (thr d L) O W)
      ⊢ wp frame (wpE (defs₀ (F := F)) 𝒱₀ (thr d L) none) Set.univ
          (cc0_k L hW (Memref.isWhole_whole _) bW (Memref.isWhole_whole _) oW (Memref.isWhole_whole _) m5 (Memref.isWhole_whole _) m6 (Memref.isWhole_whole _)
            m7 (Memref.isWhole_whole _) m8 (Memref.isWhole_whole _) cc0_scoped0 cc0_scoped1 cc0_scoped2 cc0_scoped3)
          fun _ => iprop(tdP m d (L 0).val (L 1).val ∗ scopedBufs (thr d L) ∗ scopedSems0 (thr d L)
            ∗ ∃ W', ⌜∀ p ∈ W', p ∈ W ∨ p.2 = none⌝ ∗ owes (thr d L) O W') := by
  rw [kern_eq, (K (F := F)).scopedBufs_V facts d (cV L) (jV L), SparseCore.Cfg.scopedSems0_V (Val := Elt F) d (cV L) (jV L), ownSems0_V, ownBufs_V]
  unfold goP tdP
  iintro ⟨#Hlv, -, ⟨Hh, Hb, %f4, Ho⟩, ⟨H5, H6, H7, H8, Hbufs⟩, ⟨Hs0, Hs1, Hs3, Hsems⟩, HO⟩
  ihave Hmw := ((K (F := F)).mayWaits_none (thr := thr d L) hO) $$ Hlv
  ihave Ho' := (Entails.of_eq (pts_o (F := F) d L f4).symm) $$ Ho
  iapply (wp_wand frame _ _) $$ [Hmw Hh Hb Ho' H5 H6 H7 H8 Hs0 Hs1 Hs3 HO]
  · iapply (tw_kern d L O W (Transfers.shareTokN (half (L 0).val) (L 1).val) (Transfers.shareTokN (half (L 0).val) (L 1).val) (HH m d) (BB m d)) $$ [Hmw Hh Hb Ho' H5 H6 H7 H8 Hs0 Hs1 Hs3 HO]
    isplitl [Hmw]; · iexact Hmw
    isplitl [Hh Hb Ho']
    · isplitl [Hh]; · iexact Hh
      isplitl [Hb]; · iexact Hb
      iexists f4; iexact Ho'
    unfold scratchHeld owed
    isplitl [H5]; · iexact H5
    isplitl [H6]; · iexact H6
    isplitl [H7]; · iexact H7
    isplitl [H8]; · iexact H8
    isplitl [Hs0]; · iexact Hs0
    isplitl [Hs1]; · iexact Hs1
    isplitl [Hs3]; · iexact Hs3
    iexists W; isplitr
    · ipureintro; exact fun p hp => .inl hp
    · iexact HO
  iintro %_ H
  unfold scratchHeld owed
  icases H with ⟨⟨Hh, Hb, Ho⟩, H5, H6, H7, H8, Hs0, Hs1, Hs3, HO⟩
  ihave Ho' := (Entails.of_eq (pts_o (F := F) d L _)) $$ Ho
  isplitl [Hh Hb Ho']
  · isplitl [Hh]; · iexact Hh
    isplitl [Hb]; · iexact Hb
    iexact Ho'
  isplitl [H5 H6 H7 H8 Hbufs]
  · isplitl [H5]; · iexact H5
    isplitl [H6]; · iexact H6
    isplitl [H7]; · iexact H7
    isplitl [H8]; · iexact H8
    iexact Hbufs
  isplitl [Hs0 Hs1 Hs3 Hsems]
  · isplitl [Hs0]; · iexact Hs0
    isplitl [Hs1]; · iexact Hs1
    isplitl [Hs3]; · iexact Hs3
    iexact Hsems
  iexact HO

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) hW (Memref.isWhole_whole _) bW (Memref.isWhole_whole _) oW (Memref.isWhole_whole _)
          m5 (Memref.isWhole_whole _) m6 (Memref.isWhole_whole _) m7 (Memref.isWhole_whole _) m8 (Memref.isWhole_whole _)
          cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

/-! ## The arrays dealt out and gathered -/

theorem tiles_disjoint (c : Nat) : ∀ i ∈ (Finset.univ : Finset (Fin 16)), ∀ j ∈ (Finset.univ : Finset (Fin 16)), i ≠ j →
    Disjoint (tileRows c i.val) (tileRows c j.val) := fun i _ j _ h => by
  refine Finset.disjoint_left.mpr fun x h1 h2 => h (Fin.ext ?_)
  have e1 := (Finset.mem_filter.mp h1).2
  have e2 := (Finset.mem_filter.mp h2).2
  omega
theorem tiles_cover (c : Nat) : ((Finset.univ : Finset (Fin 16)).biUnion fun i => tileRows c i.val) = coreRows c := by
  ext x
  simp only [Finset.mem_biUnion, Finset.mem_univ, true_and, tileRows, coreRows, Finset.mem_filter]
  constructor
  · rintro ⟨i, hi⟩; have := i.isLt; omega
  · intro h; exact ⟨⟨(x 0).val / 16 % 16, Nat.mod_lt _ (by decide)⟩, by simp only; omega⟩
theorem cores_disjoint : Disjoint (coreRows 0) (coreRows 1) := by
  refine Finset.disjoint_left.mpr fun x h1 h2 => ?_
  have e1 := (Finset.mem_filter.mp h1).2
  have e2 := (Finset.mem_filter.mp h2).2
  omega
theorem cores_cover : coreRows 0 ∪ coreRows 1 = (Finset.univ : Finset S512x256.Idx) := by
  ext x
  have h : (x 0).val < 512 := (x 0).isLt
  simp only [coreRows, Finset.mem_union, Finset.mem_filter, Finset.mem_univ, true_and, iff_true]
  omega

theorem o_tiles (d : Dev nD) (c : Nat) (f : Buf (Elt F) (oLoc d)) :
    (oLoc d ↦[coreRows c]{fullShare} f : sProp 𝕄) = bigSep Finset.univ fun i : Fin 16 => oLoc d ↦[tileRows c i.val]{fullShare} f := by
  rw [← pointsTo_biUnion Finset.univ (ℓ := oLoc d) (fun i : Fin 16 => tileRows c i.val) (tiles_disjoint c), tiles_cover]

theorem o_cores (d : Dev nD) (f : Buf (Elt F) (oLoc d)) :
    (oLoc d ↦{fullShare} f : sProp 𝕄) = iprop((oLoc d ↦[coreRows 0]{fullShare} f) ∗ oLoc d ↦[coreRows 1]{fullShare} f) := by
  have h := pointsTo_biUnion (Name := ℕ) (U := UU) (Lvl := ℕ) (Ix := HIx 1) (Finset.univ : Finset (Fin 2)) (ℓ := oLoc d) (q := fullShare) (f := f) (fun i : Fin 2 => coreRows i.val)
    (fun i _ j _ hij => by
      refine Finset.disjoint_left.mpr fun x h1 h2 => hij (Fin.ext ?_)
      exact (Finset.mem_filter.mp h1).2.symm.trans (Finset.mem_filter.mp h2).2)
  rw [show ((Finset.univ : Finset (Fin 2)).biUnion fun i => coreRows i.val) = Finset.univ by
    rw [show (Finset.univ : Finset (Fin 2)) = {0, 1} by decide, Finset.biUnion_insert, Finset.singleton_biUnion]; exact cores_cover] at h
  rw [h, show (Finset.univ : Finset (Fin 2)) = {0, 1} by decide, SparseCore.bigSep_insert' (by decide), bigSep_singleton]
  rfl

theorem nSub_zero : (K (F := F)).nSub 0 = 16 := rfl

theorem bigSep_tasks (Φ : Nat → sProp 𝕄) :
    (bigSep Finset.univ fun i : Fin ((K (F := F)).nSub 0) => Φ i.val) = bigSep (Finset.univ : Finset (Fin 16)) fun i => Φ i.val := rfl

theorem toks (q : PosShare TreeShare) {ℓ : Loc nD τ sig} (f : Buf (Elt F) ℓ) :
    (ℓ ↦{q} f : sProp 𝕄) ⊣⊢ iprop((ℓ ↦{Transfers.shareDrop q 16} f) ∗ bigSep Finset.univ fun i : Fin 16 => ℓ ↦{Transfers.shareTokN q i.val} f) :=
  Transfers.pointsTo_toks q 16

theorem o_some (d : Dev nD) (I : Finset S512x256.Idx) (f : Buf (Elt F) (oLoc d)) : (oLoc d ↦[I]{fullShare} f : sProp 𝕄) ⊢ oAny (F := F) d I := by
  iintro H; iexists f; iexact H

theorem o_any (d : Dev nD) (c : Nat) (f : Buf (Elt F) (oLoc d)) :
    (oLoc d ↦[coreRows c]{fullShare} f : sProp 𝕄) ⊢ bigSep Finset.univ fun i : Fin 16 => oAny (F := F) d (tileRows c i.val) := by
  rw [o_tiles]
  exact bigSep_mono fun i _ => o_some d _ f

theorem oAny_tiles (d : Dev nD) (c : Nat) :
    (oAny (F := F) d (coreRows c) : sProp 𝕄) ⊢ bigSep Finset.univ fun i : Fin 16 => oAny (F := F) d (tileRows c i.val) := by
  iintro ⟨%f, H⟩
  iapply (o_any d c f); iexact H

theorem vecSplit : (K (F := F)).VecSplit' (P m) 0 := by
  intro d c
  show stP m d c.val ⊢ |={Set.univ}=> iprop(
      (bigSep Finset.univ fun i : Fin ((K (F := F)).nSub 0) => goP m d c.val i.val)
      ∗ ((bigSep Finset.univ fun i : Fin ((K (F := F)).nSub 0) => tdP m d c.val i.val) -∗ dnP m d c.val))
  rw [bigSep_tasks (F := F) (fun i => goP m d c.val i), bigSep_tasks (F := F) (fun i => tdP m d c.val i)]
  unfold stP goP tdP dnP
  rw [bigSep_sep', bigSep_sep', bigSep_sep', bigSep_sep']
  iintro ⟨Hh, Hb, Ho⟩
  ihave Hh' := (toks (half c.val) _).1 $$ Hh
  icases Hh' with ⟨Hhd, Hh⟩
  ihave Hb' := (toks (half c.val) _).1 $$ Hb
  icases Hb' with ⟨Hbd, Hb⟩
  imodintro
  isplitl [Hh Hb Ho]
  · isplitl [Hh]; · iexact Hh
    isplitl [Hb]; · iexact Hb
    iapply (oAny_tiles d c.val); iexact Ho
  iintro ⟨Hh, Hb, Ho⟩
  isplitl [Hh Hhd]
  · iapply (toks (half c.val) _).2
    isplitl [Hhd] <;> iassumption
  isplitl [Hb Hbd]
  · iapply (toks (half c.val) _).2
    isplitl [Hbd] <;> iassumption
  iapply (Entails.of_eq (o_tiles (F := F) d c.val _).symm); iexact Ho

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev dr (b : Ref sig .tc) : DevRef τ sig := Proc.devRef .tc b

abbrev op1 : HloOp τ sig (Elt F) := StableHlo.nullary main_cst (constant S_ .f32 0x00000000#32)
abbrev op2 : HloOp τ sig (Elt F) := StableHlo.unary main_cst main_v0 (broadcastInDim S32x256 ![] bcast_S_S32x256 : (⟨S_, .f32⟩ : BufTy).Contents (Elt F) → (⟨S32x256, .f32⟩ : BufTy).Contents (Elt F))
abbrev op3 : HloOp τ sig (Elt F) := StableHlo.binary main_arg0 main_v0 main_v1 ((fun a b => concatenate S100032x256 0 [⟨S100000x256, a⟩, ⟨S32x256, b⟩] concatenates_S100000x256_S32x256_S100032x256_d0) : (⟨S100000x256, .f32⟩ : BufTy).Contents (Elt F) → (⟨S32x256, .f32⟩ : BufTy).Contents (Elt F) → (⟨S100032x256, .f32⟩ : BufTy).Contents (Elt F))
abbrev op4 : HloOp τ sig (Elt F) := StableHlo.nullary main_c (constantI S_ 32 512#32)
abbrev op5 : HloOp τ sig (Elt F) := StableHlo.unary main_c main_v2 (broadcastInDim S32 ![] bcast_S_S32 : (⟨S_, .i32⟩ : BufTy).Contents (Elt F) → (⟨S32, .i32⟩ : BufTy).Contents (Elt F))
abbrev op6 : HloOp τ sig (Elt F) := StableHlo.binary main_arg1 main_v2 main_v3 ((fun a b => concatenate S100032 0 [⟨S100000, a⟩, ⟨S32, b⟩] concatenates_S100000_S32_S100032_d0) : (⟨S100000, .i32⟩ : BufTy).Contents (Elt F) → (⟨S32, .i32⟩ : BufTy).Contents (Elt F) → (⟨S100032, .i32⟩ : BufTy).Contents (Elt F))

/-- The TensorCore's arrays, all unscoped. -/
abbrev S9 : Finset (DevRef τ sig) := {dr main_arg0, dr main_arg1, dr main_v1, dr main_v3, dr main_v4, dr main_cst, dr main_v0, dr main_c, dr main_v2}

/-- All nine arrays at their contents under `W`. -/
def nine (d : Dev nD) (W : Valuation τ sig (Elt F)) : sProp 𝕄 :=
  iprop((aLoc d ↦{fullShare} W (dr main_arg0)) ∗ (nLoc d ↦{fullShare} W (dr main_arg1)) ∗ (hLoc d ↦{fullShare} W (dr main_v1)) ∗ (bLoc d ↦{fullShare} W (dr main_v3))
    ∗ (oLoc d ↦{fullShare} W (dr main_v4)) ∗ ((SparseCore.T d).loc main_cst ↦{fullShare} W (dr main_cst)) ∗ ((SparseCore.T d).loc main_v0 ↦{fullShare} W (dr main_v0))
    ∗ ((SparseCore.T d).loc main_c ↦{fullShare} W (dr main_c)) ∗ ((SparseCore.T d).loc main_v2 ↦{fullShare} W (dr main_v2)))

theorem held_S9 (d : Dev nD) (W : Valuation τ sig (Elt F)) : (held (T d) S9 W : sProp 𝕄) = nine d W := by
  unfold held S9 nine
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The launch valuation, and what it is when the call comes. -/
def V0 (d : Dev nD) : Valuation τ sig (Elt F) := fun b => m (d, b)
def V6 (d : Dev nD) : Valuation τ sig (Elt F) := (op6 (F := F)).result ((op5 (F := F)).result ((op4 (F := F)).result ((op3 (F := F)).result ((op2 (F := F)).result ((op1 (F := F)).result (V0 m d))))))

theorem held_V6 (d : Dev nD) :
    (held (T d) S9 ((op6 (F := F)).result ((op5 (F := F)).result ((op4 (F := F)).result ((op3 (F := F)).result ((op2 (F := F)).result ((op1 (F := F)).result (V0 m d))))))) : sProp 𝕄)
      = nine d (V6 m d) := held_S9 d (V6 m d)

theorem unscoped_nine (d : Dev nD) : (unscopedBufs d (fun b => m ((SparseCore.T d).loc b)) : sProp 𝕄) = nine d (V0 m d) := by
  unfold unscopedBufs nine
  rw [show (Finset.univ.filter fun b : Ref sig .tc => ¬ b.isScoped) = {main_arg0, main_arg1, main_v1, main_v3, main_v4, main_cst, main_v0, main_c, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

/-- An operation leaves every array but the one it writes. -/
theorem skip (op : HloOp τ sig (Elt F)) (y b : Ref sig .tc) (hw : op.writes = {dr y}) (h : dr b ∉ ({dr y} : Finset (DevRef τ sig))) (V : Valuation τ sig (Elt F)) :
    op.result V (dr b) = V (dr b) := op.result_of_not_mem V (hw ▸ h)

theorem V6_a (d : Dev nD) : V6 m d (dr main_arg0) = m (aLoc d) := (skip op6 main_v3 main_arg0 rfl (by decide) _).trans ((skip op5 main_v2 main_arg0 rfl (by decide) _).trans ((skip op4 main_c main_arg0 rfl (by decide) _).trans ((skip op3 main_v1 main_arg0 rfl (by decide) _).trans ((skip op2 main_v0 main_arg0 rfl (by decide) _).trans ((skip op1 main_cst main_arg0 rfl (by decide) _).trans (rfl))))))
theorem V6_n (d : Dev nD) : V6 m d (dr main_arg1) = m (nLoc d) := (skip op6 main_v3 main_arg1 rfl (by decide) _).trans ((skip op5 main_v2 main_arg1 rfl (by decide) _).trans ((skip op4 main_c main_arg1 rfl (by decide) _).trans ((skip op3 main_v1 main_arg1 rfl (by decide) _).trans ((skip op2 main_v0 main_arg1 rfl (by decide) _).trans ((skip op1 main_cst main_arg1 rfl (by decide) _).trans (rfl))))))
theorem V6_h (d : Dev nD) : V6 m d (dr main_v1) = (HH m d : Buf (Elt F) (hLoc d)) := by
  refine (skip op6 main_v3 main_v1 rfl (by decide) _).trans ((skip op5 main_v2 main_v1 rfl (by decide) _).trans ((skip op4 main_c main_v1 rfl (by decide) _).trans (?_)))
  refine (StableHlo.binary_result' (y := main_v1) (a := main_arg0) (b := main_v0) _ _ _ _ _).trans ?_
  rw [show (op2 (F := F)).result ((op1 (F := F)).result (V0 m d)) (dr main_arg0) = m (aLoc d) from (skip op2 main_v0 main_arg0 rfl (by decide) _).trans ((skip op1 main_cst main_arg0 rfl (by decide) _).trans (rfl)),
    show (op2 (F := F)).result ((op1 (F := F)).result (V0 m d)) (dr main_v0) = (broadcastInDim S32x256 ![] bcast_S_S32x256 (constant S_ .f32 0x00000000#32 : Vec F S_ .f32) : Vec F S32x256 .f32) from
      (StableHlo.unary_result' (y := main_v0) (x := main_cst) _ _ _ _).trans (congrArg (broadcastInDim S32x256 ![] bcast_S_S32x256 : Vec F S_ .f32 → Vec F S32x256 .f32) (StableHlo.nullary_result' (y := main_cst) _ _ _))]
  rfl
theorem V6_b (d : Dev nD) : V6 m d (dr main_v3) = (BB m d : Buf (Elt F) (bLoc d)) := by
  refine (StableHlo.binary_result' (y := main_v3) (a := main_arg1) (b := main_v2) _ _ _ _ _).trans ?_
  rw [show (op5 (F := F)).result ((op4 (F := F)).result ((op3 (F := F)).result ((op2 (F := F)).result ((op1 (F := F)).result (V0 m d))))) (dr main_arg1) = m (nLoc d) from (skip op5 main_v2 main_arg1 rfl (by decide) _).trans ((skip op4 main_c main_arg1 rfl (by decide) _).trans ((skip op3 main_v1 main_arg1 rfl (by decide) _).trans ((skip op2 main_v0 main_arg1 rfl (by decide) _).trans ((skip op1 main_cst main_arg1 rfl (by decide) _).trans (rfl))))),
    show (op5 (F := F)).result ((op4 (F := F)).result ((op3 (F := F)).result ((op2 (F := F)).result ((op1 (F := F)).result (V0 m d))))) (dr main_v2) = (broadcastInDim S32 ![] bcast_S_S32 (constantI S_ 32 512#32 : Vec F S_ .i32) : Vec F S32 .i32) from
      (StableHlo.unary_result' (y := main_v2) (x := main_c) _ _ _ _).trans (congrArg (broadcastInDim S32 ![] bcast_S_S32 : Vec F S_ .i32 → Vec F S32 .i32) (StableHlo.nullary_result' (y := main_c) _ _ _))]
  rfl

theorem halves {ℓ : Loc nD τ sig} (f : Buf (Elt F) ℓ) : (ℓ ↦{fullShare} f : sProp 𝕄) ⊢ iprop((ℓ ↦{half 0} f) ∗ ℓ ↦{half 1} f) :=
  (pointsTo_share (PosShare.mem_left_op_right fullShare)).1

theorem st0_eq (d : Dev nD) : (bigSep Finset.univ fun c : Fin ((K (F := F)).nCore 0) => (P m).st 0 d c) = iprop(stP m d 0 ∗ stP m d 1) := by
  show (bigSep (Finset.univ : Finset (Fin 2)) fun c => stP m d c.val) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c) = iprop(dnP m d 0 ∗ dnP m d 1) := by
  show (bigSep (Finset.univ : Finset (Fin 2)) fun c => dnP m d c.val) = _
  rw [show (Finset.univ : Finset (Fin 2)) = {0, 1} by decide, SparseCore.bigSep_insert' (by decide), bigSep_singleton]
  rfl

/-- What @main leaves the claim: its arguments unchanged and the result. -/
abbrev FIN (d : Dev nD) : sProp 𝕄 :=
  iprop((aLoc d ↦{fullShare} m (aLoc d)) ∗ (nLoc d ↦{fullShare} m (nLoc d)) ∗ oLoc d ↦{fullShare} (result (HH m d) (BB m d) : Buf (Elt F) (oLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_nine, ← held_S9]
  simp only [main, wp_bind, wp_pure]
  iintro ⟨#Hctx, Hst, ⟨Hb, Hheld, Hts, -⟩, -⟩
  iapply (wp_hlo_within 𝒱 (SparseCore.T d) none Set.univ (op := op1) (S := S9) (show ({dr main_cst} : Finset (DevRef τ sig)) ⊆ S9 by decide) (V := V0 m d)) $$ [Hb Hheld]
  · isplitl [Hb] <;> iassumption
  iintro ⟨Hb, Hheld⟩
  rw [wp_ret]; imodintro
  iapply (wp_hlo_within 𝒱 (SparseCore.T d) none Set.univ (op := op2) (S := S9) (show ({dr main_cst, dr main_v0} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op3) (S := S9) (show ({dr main_arg0, dr main_v0, dr main_v1} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op4) (S := S9) (show ({dr main_c} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op5) (S := S9) (show ({dr main_c, dr main_v2} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op6) (S := S9) (show ({dr main_arg1, dr main_v2, dr main_v3} : Finset (DevRef τ sig)) ⊆ S9 by decide)) $$ [Hb Hheld]
  · isplitl [Hb] <;> iassumption
  iintro ⟨Hb, Hheld⟩
  rw [wp_ret]; imodintro
  ihave Hn := (Entails.of_eq (held_V6 m d)) $$ Hheld
  unfold nine
  rw [V6_a, V6_n, V6_h, V6_b]
  icases Hn with ⟨Ha, Hn, Hh, HB, Ho, -⟩
  ihave Hh' := (halves _) $$ Hh
  icases Hh' with ⟨Hh0, Hh1⟩
  ihave HB' := (halves _) $$ HB
  icases HB' with ⟨Hb0, Hb1⟩
  ihave Ho' := (Entails.of_eq (o_cores (F := F) d _)) $$ Ho
  icases Ho' with ⟨Ho0, Ho1⟩
  iapply ((K (F := F)).wp_run (D (F := F)) 𝒱 (EH := EH) (P := P m) κ d 0) $$ [Hst Ha Hn Hh0 Hh1 Hb0 Hb1 Ho0 Ho1 Hb Hts]
  isplitr; · iexact Hctx
  isplitl [Hst]; · iexact Hst
  isplitl [Hh0 Hh1 Hb0 Hb1 Ho0 Ho1]
  · rw [st0_eq]; unfold stP
    isplitl [Hh0 Hb0 Ho0]
    · isplitl [Hh0]; · iexact Hh0
      isplitl [Hb0]; · iexact Hb0
      iexists _; iexact Ho0
    · isplitl [Hh1]; · iexact Hh1
      isplitl [Hb1]; · iexact Hb1
      iexists _; iexact Ho1
  iintro ⟨Hst, Hdn⟩
  ihave Hdn' := (Entails.of_eq (dn0_eq m d)) $$ Hdn
  unfold dnP
  icases Hdn' with ⟨⟨-, -, Ho0⟩, -, -, Ho1⟩
  imodintro
  isplitl [Hst]; · iexact Hst
  isplitr [Hb Hts]
  · isplitl [Ha]; · iexact Ha
    isplitl [Hn]; · iexact Hn
    iapply (Entails.of_eq (o_cores (F := F) d _).symm)
    isplitl [Ho0] <;> iassumption
  isplitl [Hb] <;> iassumption

def fq (d : Dev nD) (s' : Phys nD τ sig (Elt F)) : Prop :=
  s'.mem.mem (aLoc d) = m (aLoc d) ∧ s'.mem.mem (nLoc d) = m (nLoc d) ∧ s'.mem.mem (oLoc d) = (result (HH m d) (BB m d) : Buf (Elt F) (oLoc d))

theorem hfin (d : Dev nD) (s' : Phys nD τ sig (Elt F)) : iprop(FIN m d ∗ SI s') ⊢ (⌜fq m d s'⌝ : sProp 𝕄) := by
  iintro ⟨⟨Ha, Hn, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h2, HSI, -⟩
  ihave H := (SI_pointsTo_agree (st := s') (ℓ := oLoc d) (I := Finset.univ) (q := fullShare) (f := (result (HH m d) (BB m d) : Buf (Elt F) (oLoc d)))) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (aLoc c) = m (aLoc c) ∧ r.2.mem (nLoc c) = m (nLoc c) ∧ r.2.mem (oLoc c) = (result (HH m c) (BB m c) : Buf (Elt F) (oLoc c))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Seg

end
-- ==== Proof.Segments.lean ====
/-
  The reference at an index: the sum of a segment's rows over the number of its rows, at least one.
-/
module

public import proofs.«01_k».proof.Proof.Gen.ReferenceIdeal.Run
public import Idealize.ShloMosaic.Lib.Routing.OpsPair
public import Idealize.ShloMosaic.Lib.IdealHost
public import Idealize.ShloMosaic.Lib.Pipeline.Value

@[expose] public section

noncomputable section

namespace Cert.ReferenceIdeal.Seg

open Cert.ReferenceIdeal Cert.ReferenceIdeal.Gen
open Idealize.ShloMosaic Idealize.ShloMosaic.ValueIdx Idealize.ShloMosaic.Routing

/-- The index words the two scatters read. -/
abbrev words (b : IVec S100000 32) : IVec S100000x1 32 := broadcastInDim S100000x1 ![0] bcast_S100000_S100000x1_0 b

/-- The rows of segment `g`. -/
def rows (b : IVec S100000 32) (g : Fin 512) : Finset (Fin 100000) := Finset.univ.filter fun i => (b (ix1 i)).toInt = (g.val : Int)

theorem words_apply (b : IVec S100000 32) (j : S100000x1.Idx) : words b j = b (ix1 (j 0)) :=
  broadcastInDim_apply ![0] bcast_S100000_S100000x1_0 b j (ix1 (j 0)) fun a => by
    match a with
    | ⟨0, _⟩ => rfl

/-- Row `j 0` is added to the row of its segment, column by column. -/
theorem lands_row (b : IVec S100000 32) (j : S100000x256.Idx) (g : Fin 512) (x : Fin 256) :
    (scatter_S512x256_S100000x1_S100000x256_1_0_0_1 : ScatterDims S512x256 S100000x1 S100000x256).resultIdx? j (words b) = some (ix2 g x)
      ↔ (b (ix1 (j 0))).toInt = (g.val : Int) ∧ (j 1).val = x.val := by
  rw [resultIdx?_ix2]
  have s0 : (scatter_S512x256_S100000x1_S100000x256_1_0_0_1 : ScatterDims S512x256 S100000x1 S100000x256).start j (words b) 0 = (b (ix1 (j 0))).toInt := by
    show (words b _).toInt = _
    rw [words_apply]; rfl
  have s1 : (scatter_S512x256_S100000x1_S100000x256_1_0_0_1 : ScatterDims S512x256 S100000x1 S100000x256).start j (words b) 1 = 0 := rfl
  have w0 : (scatter_S512x256_S100000x1_S100000x256_1_0_0_1 : ScatterDims S512x256 S100000x1 S100000x256).window j 0 = 0 := rfl
  have w1 : (scatter_S512x256_S100000x1_S100000x256_1_0_0_1 : ScatterDims S512x256 S100000x1 S100000x256).window j 1 = (j 1).val := rfl
  rw [s0, s1, w0, w1]
  omega

/-- One is added to the count of row `j 0`'s segment. -/
theorem lands_count (b : IVec S100000 32) (j : S100000.Idx) (g : Fin 512) :
    (scatter_S512_S100000x1_S100000_n_0_0_1 : ScatterDims S512 S100000x1 S100000).resultIdx? j (words b) = some (ix1 g)
      ↔ (b (ix1 (j 0))).toInt = (g.val : Int) := by
  rw [resultIdx?_ix1]
  have s0 : (scatter_S512_S100000x1_S100000_n_0_0_1 : ScatterDims S512 S100000x1 S100000).start j (words b) 0 = (b (ix1 (j 0))).toInt := by
    show (words b _).toInt = _
    rw [words_apply]; rfl
  have w0 : (scatter_S512_S100000x1_S100000_n_0_0_1 : ScatterDims S512 S100000x1 S100000).window j 0 = 0 := rfl
  rw [s0, w0]
  omega

/-- The sum of a segment's rows. -/
theorem scatter_rows (b : IVec S100000 32) (h : FVec Ideal S100000x256 .f32) (g : Fin 512) (x : Fin 256) :
    Host.scatterAdd scatter_S512x256_S100000x1_S100000x256_1_0_0_1 (broadcastInDim S512x256 ![] bcast_S_S512x256 (constant (F := Ideal) S_ .f32 0x00000000#32)) (words b) h (ix2 g x)
      = ∑ i ∈ rows b g, (h (ix2 i x) : EReal) := by
  show (Ideal.ofBits .f32 0x00000000#32 : EReal) + (∑ j ∈ Finset.univ.filter _, (h j : EReal)) = _
  rw [Ideal.ofBits_zero_f32, zero_add]
  refine Finset.sum_nbij' (fun j => j 0) (fun i => ix2 i x) ?_ ?_ ?_ ?_ ?_
  · intro j hj
    exact Finset.mem_filter.2 ⟨Finset.mem_univ _, ((lands_row b j g x).1 (Finset.mem_filter.1 hj).2).1⟩
  · intro i hi
    exact Finset.mem_filter.2 ⟨Finset.mem_univ _, (lands_row b (ix2 i x) g x).2 ⟨(Finset.mem_filter.1 hi).2, rfl⟩⟩
  · intro j hj
    have := ((lands_row b j g x).1 (Finset.mem_filter.1 hj).2).2
    rw [show x = j 1 from Fin.ext this.symm]
    exact (eq_ix2 j).symm
  · intro i _; rfl
  · intro j hj
    have := ((lands_row b j g x).1 (Finset.mem_filter.1 hj).2).2
    rw [show x = j 1 from Fin.ext this.symm]
    exact congrArg h (eq_ix2 j)

/-- The number of a segment's rows. -/
theorem scatter_count (b : IVec S100000 32) (g : Fin 512) :
    Host.scatterAdd scatter_S512_S100000x1_S100000_n_0_0_1 (broadcastInDim S512 ![] bcast_S_S512 (constant (F := Ideal) S_ .f32 0x00000000#32)) (words b)
        (broadcastInDim S100000 ![] bcast_S_S100000 (constant (F := Ideal) S_ .f32 0x3F800000#32)) (ix1 g)
      = (((rows b g).card : ℝ) : EReal) := by
  show (Ideal.ofBits .f32 0x00000000#32 : EReal) + (∑ j ∈ Finset.univ.filter _, (Ideal.ofBits .f32 0x3F800000#32 : EReal)) = _
  rw [Ideal.ofBits_zero_f32, Ideal.ofBits_one_f32, zero_add]
  have : (∑ i ∈ rows b g, (1 : EReal)) = (((rows b g).card : ℝ) : EReal) := by
    rw [Finset.sum_const, nsmul_one]; rfl
  rw [← this]
  refine Finset.sum_nbij' (fun j => j 0) (fun i => ix1 i) ?_ ?_ ?_ ?_ ?_
  · intro j hj
    exact Finset.mem_filter.2 ⟨Finset.mem_univ _, (lands_count b j g).1 (Finset.mem_filter.1 hj).2⟩
  · intro i hi
    exact Finset.mem_filter.2 ⟨Finset.mem_univ _, (lands_count b (ix1 i) g).2 (Finset.mem_filter.1 hi).2⟩
  · intro j _; exact (eq_ix1 j).symm
  · intro i _; rfl
  · intro j _; rfl

/-- The mean of a segment, as the reference defines it. -/
def meanAt (h : FVec Ideal S100000x256 .f32) (b : IVec S100000 32) (g : Fin 512) (x : Fin 256) : EReal :=
  Ideal.div (∑ i ∈ rows b g, (h (ix2 i x) : EReal)) (max 1 (((rows b g).card : ℝ) : EReal))

/-- The reference's result. -/
abbrev value (h : FVec Ideal S100000x256 .f32) (b : IVec S100000 32) : FVec Ideal S512x256 .f32 :=
  Host.divf (Host.scatterAdd scatter_S512x256_S100000x1_S100000x256_1_0_0_1 (broadcastInDim S512x256 ![] bcast_S_S512x256 (constant S_ .f32 0x00000000#32)) (words b) h)
    (broadcastInDim S512x256 ![0, 1] bcast_S512x1_S512x256_0_1 (broadcastInDim S512x1 ![0] bcast_S512_S512x1_0
      (maximumf (broadcastInDim S512 ![] bcast_S_S512 (id (constant S_ .f32 0x3F800000#32)))
        (Host.scatterAdd scatter_S512_S100000x1_S100000_n_0_0_1 (broadcastInDim S512 ![] bcast_S_S512 (constant S_ .f32 0x00000000#32)) (words b)
          (broadcastInDim S100000 ![] bcast_S_S100000 (constant S_ .f32 0x3F800000#32))))))

/-- A quotient by a vector of divisors, at an index. -/
theorem quotient_apply (a : FVec Ideal S512x256 .f32) (p q : FVec Ideal S512 .f32) (g : Fin 512) (x : Fin 256) :
    Host.divf a (broadcastInDim S512x256 ![0, 1] bcast_S512x1_S512x256_0_1 (broadcastInDim S512x1 ![0] bcast_S512_S512x1_0 (maximumf p q))) (ix2 g x)
      = Ideal.div (a (ix2 g x)) (max (p (ix1 g)) (q (ix1 g))) := by
  have e1 := broadcastInDim_apply ![0, 1] bcast_S512x1_S512x256_0_1 (broadcastInDim S512x1 ![0] bcast_S512_S512x1_0 (maximumf p q)) (ix2 g x) (ix2 g 0) (fun a => by
      match a with
      | ⟨0, _⟩ => rfl
      | ⟨1, _⟩ => rfl)
  have e2 := broadcastInDim_apply ![0] bcast_S512_S512x1_0 (maximumf p q) (ix2 g 0) (ix1 g) (fun a => by
      match a with
      | ⟨0, _⟩ => rfl)
  exact congrArg (Ideal.div (a (ix2 g x))) (e1.trans e2)

theorem value_apply (h : FVec Ideal S100000x256 .f32) (b : IVec S100000 32) (g : Fin 512) (x : Fin 256) :
    value h b (ix2 g x) = meanAt h b g x := by
  have e : broadcastInDim S512 ![] bcast_S_S512 (id (constant (F := Ideal) S_ .f32 0x3F800000#32)) (ix1 g) = (1 : EReal) := Ideal.ofBits_one_f32
  refine (quotient_apply _ _ _ g x).trans ?_
  unfold meanAt
  rw [scatter_rows, scatter_count, e]

end Cert.ReferenceIdeal.Seg

end
-- ==== Proof.KernelIdealMean.lean ====
/-
  The kernel's result on exact numbers: for segment numbers in order, the mean the reference defines.
-/
module

public import proofs.«01_k».proof.Proof.KernelIdealRun
public import proofs.«01_k».proof.Proof.Segments

@[expose] public section

noncomputable section

namespace Cert.KernelIdeal.Seg

open Cert.KernelIdeal Cert.KernelIdeal.Gen
open Idealize.ShloMosaic

/-! ## The running sums -/

/-- What row `n` adds where it counts. -/
def term (p : BitVec 1) (v : EReal) : EReal := if p = 1#1 then v else 0

/-- The lane of column `16 j + y` of row `n`. -/
def col (H : Vec Ideal S100032x256 .f32) (j y : Fin 16) (n : Nat) : EReal := H (ix2 n (16 * j.val + y.val))

theorem lanes_cast (H : Vec Ideal S100032x256 .f32) (n : Nat) (j : Fin 16) (y : Fin 16) :
    shapeCast S16 (lanes H n j) shapeCasts_S1x16_S16 (ValueIdx.ix1 y) = col H j y n :=
  shapeCast_apply (lanes H n j) shapeCasts_S1x16_S16 (ValueIdx.ix1 y) (ValueIdx.ix2 0 y) (by
    rw [Shape.rowMajor_val_two, Shape.rowMajor_val_one]
    show 0 * 16 + y.val = y.val
    omega)

theorem addLanes_apply (H : Vec Ideal S100032x256 .f32) (p : BitVec 1) (a : V Ideal) (n : Nat) (j : Fin 16) (y : Fin 16) :
    (addLanes p a (lanes H n j) (ValueIdx.ix1 y) : EReal) = (a (ValueIdx.ix1 y) : EReal) + term p (col H j y n) := by
  refine congrArg ((a (ValueIdx.ix1 y) : EReal) + ·) ?_
  unfold term
  by_cases h : p = 1#1
  · rw [if_pos h]
    subst h
    exact lanes_cast H n j y
  · rw [if_neg h]
    exact (congrFun (if_neg h : Scalar.select p _ (zeroV : V Ideal) = zeroV) (ValueIdx.ix1 y)).trans Ideal.ofBits_zero_f32

theorem rows_foldl (H : Vec Ideal S100032x256 .f32) (p : Fin 32 → BitVec 1) (n : Fin 32 → Nat) (j : Fin 16) (y : Fin 16) :
    ∀ (l : List (Fin 32)) (a : Fin 16 → V Ideal),
      (l.foldl (fun a r => rowSum H (p r) (n r) a) a j (ValueIdx.ix1 y) : EReal) = (a j (ValueIdx.ix1 y) : EReal) + (l.map fun r => term (p r) (col H j y (n r))).sum
  | [], a => by simp
  | r :: l, a => by
    rw [List.foldl_cons, rows_foldl H p n j y l, List.map_cons, List.sum_cons, ← add_assoc]
    exact congrArg (· + _) (addLanes_apply H (p r) (a j) (n r) j y)

theorem chunkSum_apply (H : Vec Ideal S100032x256 .f32) (n : Nat) (r0 m : BitVec 32) (a : Fin 16 → V Ideal) (j : Fin 16) (y : Fin 16) :
    (chunkSum H n r0 m a j (ValueIdx.ix1 y) : EReal) = (a j (ValueIdx.ix1 y) : EReal) + ∑ r : Fin 32, term (counts r0 m r) (col H j y (n + r.val)) := by
  unfold chunkSum
  rw [rows_foldl H (fun r => counts r0 m r) (fun r => n + r.val), ← Fin.sum_univ_def]

/-- Row `n`'s element where the row lies between `s` and `e`. -/
def inside (s e : Nat) (f : Nat → EReal) (n : Nat) : EReal := if s ≤ n ∧ n < e then f n else 0

theorem sums_apply (H : Vec Ideal S100032x256 .f32) {s e : BitVec 32} (hs : s.toNat ≤ 100001) (he : e.toNat ≤ 100001) (j : Fin 16) (y : Fin 16) :
    ∀ c ≤ (k0_t4_loop s e).trips, (sums H s e c j (ValueIdx.ix1 y) : EReal)
      = ∑ n ∈ Finset.range (32 * c), inside s.toNat e.toNat (col H j y) (s.toNat / 8 * 8 + n)
  | 0, _ => by
    rw [sums_zero]
    show Ideal.ofBits .f32 0x00000000#32 = _
    rw [Ideal.ofBits_zero_f32]; simp
  | c + 1, hc => by
    have ht := t4_lt hs he (c := c) (by omega)
    rw [sums_succ, chunkSum_apply, sums_apply H hs he j y c (by omega),
      show 32 * (c + 1) = 32 * c + 32 from Nat.mul_succ 32 c, Finset.sum_range_add]
    refine congrArg (_ + ·) ?_
    rw [← Fin.sum_univ_eq_sum_range (fun x => inside s.toNat e.toNat (col H j y) (s.toNat / 8 * 8 + (32 * c + x))) 32]
    refine Finset.sum_congr rfl fun r _ => ?_
    unfold term inside
    rw [← Nat.add_assoc, ← rowAt_eq hs ht.1]
    exact if_congr (counts_iff hs he (by omega) r) rfl rfl

/-- A window of rows that holds all of a segment's. -/
theorem sum_window (s e b t : Nat) (f : Nat → EReal) (hb : b ≤ s) (ht : e ≤ b + t) :
    ∑ n ∈ Finset.range t, inside s e f (b + n) = ∑ n ∈ Finset.Ico s e, f n := by
  unfold inside
  rw [← Finset.sum_filter]
  refine Finset.sum_nbij' (fun n => b + n) (fun n => n - b) ?_ ?_ ?_ ?_ ?_
  · intro n hn
    exact Finset.mem_Ico.2 (Finset.mem_filter.1 hn).2
  · intro n hn
    have := Finset.mem_Ico.1 hn
    refine Finset.mem_filter.2 ⟨Finset.mem_range.2 (by omega), ?_⟩
    show s ≤ b + (n - b) ∧ b + (n - b) < e
    omega
  · intro n _; show b + n - b = n; omega
  · intro n hn
    have := Finset.mem_Ico.1 hn
    show b + (n - b) = n
    omega
  · intro n _; rfl

theorem sums_segment (H : Vec Ideal S100032x256 .f32) {s e : BitVec 32} (hs : s.toNat ≤ 100001) (he : e.toNat ≤ 100001) (j : Fin 16) (y : Fin 16) :
    (sums H s e (k0_t4_loop s e).trips j (ValueIdx.ix1 y) : EReal) = ∑ n ∈ Finset.Ico s.toNat e.toNat, col H j y n := by
  rw [sums_apply H hs he j y _ le_rfl]
  have := t4_trips hs he
  exact sum_window _ _ _ _ _ (by omega) (by omega)

/-! ## The number of rows -/

theorem denom_apply {s e : BitVec 32} (he : e.toNat ≤ 100001) (h : s.toNat ≤ e.toNat) (y : Fin 16) :
    (denom (F := Ideal) s e (ValueIdx.ix1 y) : EReal) = max 1 (((e.toNat - s.toNat : Nat) : ℝ) : EReal) := by
  have hsub : (Scalar.subi e s).toInt = ((e.toNat - s.toNat : Nat) : Int) := by
    have : Affine.IsInt (Scalar.subi e s) ((e.toNat : Int) - (s.toNat : Int)) :=
      Affine.subi (isInt_of_toNat rfl (by omega)) (isInt_of_toNat rfl (by omega)) ⟨rfl, by omega, by omega⟩
    have := toInt_of_isInt this
    omega
  have hmax : (Scalar.maxsi (Scalar.subi e s) 1#32).toInt = max ((e.toNat - s.toNat : Nat) : Int) 1 :=
    toInt_of_isInt (Affine.maxsi (hsub ▸ Affine.word _) (Affine.ofNat 1 ⟨rfl, by decide⟩) rfl)
  show ((((Scalar.maxsi (Scalar.subi e s) 1#32).toInt : ℝ)) : EReal) = _
  rw [hmax, max_comm]
  push_cast
  rfl

/-- One element of a mean. -/
theorem mean_apply (H : Vec Ideal S100032x256 .f32) {s e : BitVec 32} (hs : s.toNat ≤ 100001) (he : e.toNat ≤ 100001) (h : s.toNat ≤ e.toNat) (j y : Fin 16) :
    (mean H s e j (ValueIdx.ix1 y) : EReal)
      = Ideal.div (∑ n ∈ Finset.Ico s.toNat e.toNat, col H j y n) (max 1 (((e.toNat - s.toNat : Nat) : ℝ) : EReal)) := by
  rw [← sums_segment H hs he, ← denom_apply he h y]
  rfl

/-! ## The arrays the call reads -/

theorem padH_apply (h : Vec Ideal S100000x256 .f32) (n : Nat) (hn : n < 100000) (x : Fin 256) :
    padH h (ix2 n x.val) = h (ValueIdx.ix2 ⟨n, hn⟩ x) :=
  concatenate_pair_apply_left 0 h _ concatenates_S100000x256_S32x256_S100032x256_d0 (ix2 n x.val) rfl (ValueIdx.ix2 ⟨n, hn⟩ x) fun a => by
    match a with
    | ⟨0, _⟩ => exact (Nat.mod_eq_of_lt (by show n < 100032; omega)).symm
    | ⟨1, _⟩ => exact (Nat.mod_eq_of_lt x.isLt).symm

theorem padB_apply (b : Vec Ideal S100000 .i32) (n : Nat) (hn : n < 100000) :
    wordAt (padB b) n = b (ValueIdx.ix1 ⟨n, hn⟩) :=
  concatenate_pair_apply_left 0 b _ concatenates_S100000_S32_S100032_d0 (ix1 n) rfl (ValueIdx.ix1 ⟨n, hn⟩) fun a => by
    match a with
    | ⟨0, _⟩ => exact (Nat.mod_eq_of_lt (by show n < 100032; omega)).symm

theorem padB_end (b : Vec Ideal S100000 .i32) : wordAt (padB b) 100000 = 512#32 :=
  concatenate_pair_apply_right 0 b (broadcastInDim S32 ![] bcast_S_S32 (constantI S_ 32 512#32)) concatenates_S100000_S32_S100032_d0 (ix1 100000) rfl rfl (ValueIdx.ix1 0) (fun a ha => absurd (Subsingleton.elim (α := Fin 1) _ _) ha) (by
    show 0 + 100000 = 100000 % 100032
    omega)

/-! ## The segments -/

/-- The segment numbers are in order. -/
def InOrder (b : Vec Ideal S100000 .i32) : Prop := ∀ i k : Fin 100000, i ≤ k → (b (ValueIdx.ix1 i)).toInt ≤ (b (ValueIdx.ix1 k)).toInt

theorem bound_spec {b : Vec Ideal S100000 .i32} (hb : InOrder b) {g : Nat} (hg : g ≤ 512) :
    (boundW (wordAt (padB b)) (BitVec.ofNat 32 g)).toNat ≤ 100000
      ∧ ∀ i : Fin 100000, i.val < (boundW (wordAt (padB b)) (BitVec.ofNat 32 g)).toNat ↔ (b (ValueIdx.ix1 i)).toInt < (g : Int) := by
  have hgi : (BitVec.ofNat 32 g).toInt = (g : Int) := toInt_of_isInt (isInt_of_toNat (by rw [BitVec.toNat_ofNat]; omega) (by omega))
  have h := boundW_spec (B := wordAt (padB b)) (t := BitVec.ofNat 32 g) (fun i k hik hk => by
      rw [padB_apply b i (by omega), padB_apply b k hk]
      exact hb _ _ hik) (by
      rw [padB_end, hgi, show (512#32 : BitVec 32).toInt = 512 by decide]
      omega)
  refine ⟨h.1, fun i => ?_⟩
  rw [h.2 i.val (by omega), padB_apply b i.val i.isLt, hgi]

/-- The rows between a segment's bounds are the segment's rows. -/
theorem sum_rows {b : Vec Ideal S100000 .i32} (hb : InOrder b) (g : Fin 512) (f : Nat → EReal) (k : Fin 100000 → EReal) (hf : ∀ i : Fin 100000, f i.val = k i) :
    ∑ n ∈ Finset.Ico (boundW (wordAt (padB b)) (BitVec.ofNat 32 g.val)).toNat (boundW (wordAt (padB b)) (BitVec.ofNat 32 (g.val + 1))).toNat, f n
      = ∑ i ∈ ReferenceIdeal.Seg.rows b g, k i := by
  obtain ⟨_, h1⟩ := bound_spec hb (g := g.val) (by omega)
  obtain ⟨le2, h2⟩ := bound_spec hb (g := g.val + 1) (by omega)
  refine (Finset.sum_nbij (fun i : Fin 100000 => i.val) ?_ (fun i _ k _ h => Fin.ext h) ?_ (fun i _ => (hf i).symm)).symm
  · intro i hi
    have e := (Finset.mem_filter.1 hi).2
    have a1 := h1 i
    have a2 := h2 i
    refine Finset.mem_Ico.2 ⟨?_, ?_⟩
    · refine not_lt.1 fun h => ?_
      have := a1.1 h
      omega
    · exact a2.2 (by omega)
  · intro n hn
    have e := Finset.mem_Ico.1 hn
    refine ⟨⟨n, by omega⟩, ?_, rfl⟩
    have a1 := h1 ⟨n, by omega⟩
    have a2 := h2 ⟨n, by omega⟩
    have b1 : ¬ (b (ValueIdx.ix1 ⟨n, _⟩)).toInt < (g.val : Int) := fun q => absurd (a1.2 q) (not_lt.2 e.1)
    have b2 := a2.1 e.2
    exact Finset.mem_coe.2 (Finset.mem_filter.2 ⟨Finset.mem_univ _, by omega⟩)

theorem bounds_le {b : Vec Ideal S100000 .i32} (hb : InOrder b) (g : Fin 512) :
    (boundW (wordAt (padB b)) (BitVec.ofNat 32 g.val)).toNat ≤ (boundW (wordAt (padB b)) (BitVec.ofNat 32 (g.val + 1))).toNat := by
  obtain ⟨le1, h1⟩ := bound_spec hb (g := g.val) (by omega)
  obtain ⟨le2, h2⟩ := bound_spec hb (g := g.val + 1) (by omega)
  refine not_lt.1 fun h => ?_
  have q : (boundW (wordAt (padB b)) (BitVec.ofNat 32 (g.val + 1))).toNat < 100000 := by omega
  have a1 := (h1 ⟨_, q⟩).1 h
  exact absurd ((h2 ⟨_, q⟩).2 (by omega)) (lt_irrefl _)

theorem card_rows {b : Vec Ideal S100000 .i32} (hb : InOrder b) (g : Fin 512) :
    (boundW (wordAt (padB b)) (BitVec.ofNat 32 (g.val + 1))).toNat - (boundW (wordAt (padB b)) (BitVec.ofNat 32 g.val)).toNat
      = (ReferenceIdeal.Seg.rows b g).card := by
  have h := sum_rows hb g (fun _ => 1) (fun _ => 1) fun _ => rfl
  rw [Finset.sum_const, Finset.sum_const, nsmul_one, nsmul_one, Nat.card_Ico] at h
  exact_mod_cast h

theorem entry_apply {α : Type} (v : Fin 16 → S16.Idx → α) (x : Fin 256) :
    entry v x = v ⟨x.val / 16, by omega⟩ (ValueIdx.ix1 ⟨x.val % 16, Nat.mod_lt _ (by decide)⟩) :=
  congrArg (v _) (funext fun a => by
    match a with
    | ⟨0, _⟩ => rfl)

/-- The kernel's result is the reference's. -/
theorem result_eq {b : Vec Ideal S100000 .i32} (hb : InOrder b) (h : Vec Ideal S100000x256 .f32) (g : Fin 512) (x : Fin 256) :
    (result (padH h) (padB b) (ValueIdx.ix2 g x) : EReal) = ReferenceIdeal.Seg.meanAt h b g x := by
  have hx := x.isLt
  refine (entry_apply _ x).trans ((mean_apply _ (boundW_le _ _) (boundW_le _ _) (bounds_le hb g) ⟨x.val / 16, by omega⟩ ⟨x.val % 16, by omega⟩).trans ?_)
  rw [card_rows hb g]
  unfold ReferenceIdeal.Seg.meanAt
  rw [sum_rows hb g _ (fun i => h (ValueIdx.ix2 i x))]
  intro i
  unfold col
  have e : 16 * (x.val / 16) + x.val % 16 = x.val := Nat.div_add_mod _ _
  show padH h (ix2 i.val (16 * (x.val / 16) + x.val % 16)) = _
  rw [e, padH_apply h i.val i.isLt x]

end Cert.KernelIdeal.Seg

end
-- ==== Proof.InOrder.lean ====
/-
  The precondition read back: the segment numbers are in order.
-/
module

public import proofs.«01_k».proof.Proof.KernelIdealMean
public import proofs.«01_k».proof.Proof.Gen.Pre_in_order
public import Idealize.ShloMosaic.Lib.ReduceAll

@[expose] public section

noncomputable section

namespace Cert.Pre_in_order.Seg

open Cert.Pre_in_order Cert.Pre_in_order.Gen
open Idealize.ShloMosaic

instance : Subsingleton S_.Idx := ⟨fun _ _ => funext fun a => a.elim0⟩

/-- Neighbours are in order, -/
theorem neighbours {h : FVec Ideal S100000x256 .f32} {b : IVec S100000 32} (e : fn (F := Ideal) h b = fun _ => 1#1) (n : Nat) (hn : n + 1 < 100000) :
    (b (ValueIdx.ix1 ⟨n, by omega⟩)).toInt ≤ (b (ValueIdx.ix1 ⟨n + 1, hn⟩)).toInt := by
  have q := Host.reduce_andi_all _ _ _ _ (Shape.Idx.first h_S_) (congrFun e _) (ValueIdx.ix1 (⟨n, by omega⟩ : Fin 99999))
  have q' : IntOp.cmpi .sle (b (ValueIdx.ix1 ⟨n, by omega⟩)) (b (ValueIdx.ix1 ⟨n + 1, hn⟩)) = 1#1 := by
    refine Eq.trans ?_ q
    refine congrArg₂ (IntOp.cmpi .sle) (congrArg b (funext fun a => Fin.ext ?_)) (congrArg b (funext fun a => Fin.ext ?_))
    · match a with
      | ⟨0, _⟩ => exact (Nat.zero_add n).symm
    · match a with
      | ⟨0, _⟩ => exact Nat.add_comm n 1
  have s : ∀ x y : BitVec 32, IntOp.cmpi .sle x y = 1#1 → x.toInt ≤ y.toInt := fun x y h => BitVec.sle_iff_toInt_le.1 (by
    cases t : x.sle y
    · exact absurd ((congrArg BitVec.ofBool t).symm.trans h) (by decide)
    · rfl)
  exact s _ _ q'

/-- hence any two. -/
theorem inOrder {h : FVec Ideal S100000x256 .f32} {b : IVec S100000 32} (e : fn (F := Ideal) h b = fun _ => 1#1) : KernelIdeal.Seg.InOrder b := by
  have step : ∀ (k n : Nat) (hk : n + k < 100000), (b (ValueIdx.ix1 ⟨n, by omega⟩)).toInt ≤ (b (ValueIdx.ix1 ⟨n + k, hk⟩)).toInt := by
    intro k
    induction k with
    | zero => exact fun n _ => le_rfl
    | succ k ih => exact fun n hk => (ih n (by omega)).trans (neighbours e (n + k) hk)
  intro i k hik
  have hi := i.isLt
  have hk := k.isLt
  have hle : i.val ≤ k.val := hik
  have q := step (k.val - i.val) i.val (by omega)
  rwa [show (⟨i.val + (k.val - i.val), by omega⟩ : Fin 100000) = k from Fin.ext (by show i.val + (k.val - i.val) = k.val; omega)] at q

end Cert.Pre_in_order.Seg

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealMean
public import proofs.«01_k».proof.Proof.InOrder
public import proofs.«01_k».proof.Proof.Gen.Pre_in_order
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem quiescent_Kernel : Cert.quiescent_Kernel := fun m ρ _ =>
  (θ_run _ _ _).mono (fun _ h => ⟨fun c => ⟨(h.1 c).1, (h.1 c).2.1⟩, h.2⟩) (Cert.Kernel.Seg.run_main (F := Bits) m ρ)

theorem quiescent_KernelIdeal : Cert.quiescent_KernelIdeal := fun m ρ _ =>
  (θ_run _ _ _).mono (fun _ h => ⟨fun c => ⟨(h.1 c).1, (h.1 c).2.1⟩, h.2⟩) (Cert.KernelIdeal.Seg.run_main (F := Ideal) m ρ)

theorem quiescent_KernelIdeal_pre_in_order : Cert.quiescent_KernelIdeal_pre_in_order := fun m ρ _ =>
  quiescent_KernelIdeal m ρ trivial

theorem quiescent_ReferenceIdeal : Cert.quiescent_ReferenceIdeal := fun m ρ _ =>
  (θ_run _ _ _).mono (fun r h => ⟨fun c => (h c).2, sem_eq_zero_of_no_sems rfl r.2⟩) (Cert.ReferenceIdeal.Value.run (F := Ideal) m ρ)

theorem quiescent_ReferenceIdeal_pre_in_order : Cert.quiescent_ReferenceIdeal_pre_in_order := fun m ρ _ =>
  quiescent_ReferenceIdeal m ρ trivial

/-- The reference's term of the arguments is the kernel's, for segment numbers in order. -/
theorem value_eq (h : FVec Ideal Cert.ReferenceIdeal.S100000x256 .f32) (b : IVec Cert.ReferenceIdeal.S100000 32) (hb : Cert.KernelIdeal.Seg.InOrder b) :
    Cert.ReferenceIdeal.Seg.value h b = Cert.KernelIdeal.Seg.result (F := Ideal) (Cert.KernelIdeal.Seg.padH h) (Cert.KernelIdeal.Seg.padB b) := by
  funext x
  have e : x = ValueIdx.ix2 (x 0) (x 1) := ValueIdx.eq_ix2 x
  rw [e]
  exact (Cert.ReferenceIdeal.Seg.value_apply h b _ _).trans (Cert.KernelIdeal.Seg.result_eq hb h _ _).symm

theorem algebraic : Cert.algebraic_KernelIdeal_ReferenceIdeal_pre_in_order := fun m ρ m' ρ' hp hm =>
  ⟨fun c => Cert.KernelIdeal.Seg.result (Cert.KernelIdeal.Seg.HH m c) (Cert.KernelIdeal.Seg.BB m c),
    (θ_run _ _ _).mono (fun _ h c => ⟨(h.1 c).2.2, (h.1 c).1, (h.1 c).2.1⟩) (Cert.KernelIdeal.Seg.run_main (F := Ideal) m ρ),
    (θ_run _ _ _).mono (fun r h c => ⟨(h c).1.trans (by
      rw [(hm c).1, (hm c).2]
      exact value_eq _ _ (Cert.Pre_in_order.Seg.inOrder (hp c))), (h c).2⟩) (Cert.ReferenceIdeal.Value.run (F := Ideal) m' ρ')⟩

theorem claim : Cert.Claim := ⟨Cert.Kernel.Gen.facts, Cert.KernelIdeal.Gen.facts, Cert.ReferenceIdeal.Gen.facts, Cert.Pre_in_order.Gen.facts,
  quiescent_Kernel, quiescent_KernelIdeal, quiescent_KernelIdeal_pre_in_order, quiescent_ReferenceIdeal, quiescent_ReferenceIdeal_pre_in_order, trivial, algebraic⟩

end Cert.Proof

end
